-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_hw" .f32 0x3C924925#32 ((1 / 56 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x7x8x1536 : Shape := ⟨4, ![4, 7, 8, 1536]⟩
abbrev S4 : Shape := ⟨1, ![4]⟩
abbrev S3x3x1536x2304 : Shape := ⟨4, ![3, 3, 1536, 2304]⟩
abbrev S2304 : Shape := ⟨1, ![2304]⟩
abbrev S2304x384 : Shape := ⟨2, ![2304, 384]⟩
abbrev S384 : Shape := ⟨1, ![384]⟩
abbrev S384x2304 : Shape := ⟨2, ![384, 2304]⟩
abbrev S1x2304 : Shape := ⟨2, ![1, 2304]⟩
abbrev S1x384 : Shape := ⟨2, ![1, 384]⟩
abbrev S4x7x8x2304 : Shape := ⟨4, ![4, 7, 8, 2304]⟩
abbrev S1x1 : Shape := ⟨2, ![1, 1]⟩
abbrev S4x2304 : Shape := ⟨2, ![4, 2304]⟩
abbrev S4x1 : Shape := ⟨2, ![4, 1]⟩
abbrev S4x384 : Shape := ⟨2, ![4, 384]⟩
abbrev S3x3x1536x256 : Shape := ⟨4, ![3, 3, 1536, 256]⟩
abbrev S1x256 : Shape := ⟨2, ![1, 256]⟩
abbrev S3x224x1536 : Shape := ⟨3, ![3, 224, 1536]⟩
abbrev S9x4x7x8x256 : Shape := ⟨5, ![9, 4, 7, 8, 256]⟩
abbrev S9x4x256 : Shape := ⟨3, ![9, 4, 256]⟩
abbrev S8x1536 : Shape := ⟨2, ![8, 1536]⟩
abbrev S1x1x8x1536 : Shape := ⟨4, ![1, 1, 8, 1536]⟩
abbrev S16x1536 : Shape := ⟨2, ![16, 1536]⟩
abbrev S1x16x1536 : Shape := ⟨3, ![1, 16, 1536]⟩
abbrev S192x256 : Shape := ⟨2, ![192, 256]⟩
abbrev S224x256 : Shape := ⟨2, ![224, 256]⟩
abbrev S1x224x1536 : Shape := ⟨3, ![1, 224, 1536]⟩
abbrev S224x1536 : Shape := ⟨2, ![224, 1536]⟩
abbrev S1x1x1536x256 : Shape := ⟨4, ![1, 1, 1536, 256]⟩
abbrev S1536x256 : Shape := ⟨2, ![1536, 256]⟩
abbrev S1x192x1536 : Shape := ⟨3, ![1, 192, 1536]⟩
abbrev S192x1536 : Shape := ⟨2, ![192, 1536]⟩
abbrev S32x256 : Shape := ⟨2, ![32, 256]⟩
abbrev S7x4x8x256 : Shape := ⟨4, ![7, 4, 8, 256]⟩
abbrev S7x1x8x256 : Shape := ⟨4, ![7, 1, 8, 256]⟩
abbrev S7x8x256 : Shape := ⟨3, ![7, 8, 256]⟩
abbrev S1 : Shape := ⟨1, ![1]⟩
abbrev S1x1x256 : Shape := ⟨3, ![1, 1, 256]⟩
abbrev S1x1x7x8x256 : Shape := ⟨5, ![1, 1, 7, 8, 256]⟩
abbrev S8x256 : Shape := ⟨2, ![8, 256]⟩
abbrev S256 : Shape := ⟨1, ![256]⟩
abbrev S1x4x256 : Shape := ⟨3, ![1, 4, 256]⟩
abbrev S4x256 : Shape := ⟨2, ![4, 256]⟩
abbrev S4x128 : Shape := ⟨2, ![4, 128]⟩
abbrev S1x4x2304 : Shape := ⟨3, ![1, 4, 2304]⟩
abbrev S1x1x1 : Shape := ⟨3, ![1, 1, 1]⟩
abbrev S1x7x8x256 : Shape := ⟨4, ![1, 7, 8, 256]⟩

abbrev nBuf : Space → Nat
  | .hbm => 26
  | .vmem => 25
  | .smem => 2
  | _ => 0

abbrev bufTy : (tb : Table) → Fin (tcTables nBuf tb) → BufTy
  | .hbm, ⟨0, _⟩ => ⟨S4x7x8x1536, .i8⟩
  | .hbm, ⟨1, _⟩ => ⟨S4, .f32⟩
  | .hbm, ⟨2, _⟩ => ⟨S3x3x1536x2304, .i8⟩
  | .hbm, ⟨3, _⟩ => ⟨S2304, .f32⟩
  | .hbm, ⟨4, _⟩ => ⟨S2304, .f32⟩
  | .hbm, ⟨5, _⟩ => ⟨S2304, .f32⟩
  | .hbm, ⟨6, _⟩ => ⟨S2304x384, .fp8e4m3⟩
  | .hbm, ⟨7, _⟩ => ⟨S384, .f32⟩
  | .hbm, ⟨8, _⟩ => ⟨S384, .f32⟩
  | .hbm, ⟨9, _⟩ => ⟨S384x2304, .fp8e4m3⟩
  | .hbm, ⟨10, _⟩ => ⟨S2304, .f32⟩
  | .hbm, ⟨11, _⟩ => ⟨S2304, .f32⟩
  | .hbm, ⟨12, _⟩ => ⟨S1x2304, .f32⟩
  | .hbm, ⟨13, _⟩ => ⟨S1x2304, .f32⟩
  | .hbm, ⟨14, _⟩ => ⟨S1x2304, .f32⟩
  | .hbm, ⟨15, _⟩ => ⟨S1x384, .f32⟩
  | .hbm, ⟨16, _⟩ => ⟨S1x384, .f32⟩
  | .hbm, ⟨17, _⟩ => ⟨S1x2304, .f32⟩
  | .hbm, ⟨18, _⟩ => ⟨S1x2304, .f32⟩
  | .hbm, ⟨19, _⟩ => ⟨S4x7x8x2304, .i8⟩
  | .hbm, ⟨20, _⟩ => ⟨S1x1, .f32⟩
  | .hbm, ⟨21, _⟩ => ⟨S4x2304, .f32⟩
  | .hbm, ⟨22, _⟩ => ⟨S4x2304, .fp8e4m3⟩
  | .hbm, ⟨23, _⟩ => ⟨S4x1, .f32⟩
  | .hbm, ⟨24, _⟩ => ⟨S4x384, .fp8e4m3⟩
  | .hbm, ⟨25, _⟩ => ⟨S4x1, .f32⟩
  | .local _ .vmem, ⟨0, _⟩ => ⟨S4x7x8x1536, .i8⟩
  | .local _ .vmem, ⟨1, _⟩ => ⟨S3x3x1536x256, .i8⟩
  | .local _ .vmem, ⟨2, _⟩ => ⟨S3x3x1536x256, .i8⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S2304x384, .fp8e4m3⟩
  | .local _ .vmem, ⟨10, _⟩ => ⟨S1x384, .f32⟩
  | .local _ .vmem, ⟨11, _⟩ => ⟨S1x384, .f32⟩
  | .local _ .vmem, ⟨12, _⟩ => ⟨S384x2304, .fp8e4m3⟩
  | .local _ .vmem, ⟨13, _⟩ => ⟨S1x2304, .f32⟩
  | .local _ .vmem, ⟨14, _⟩ => ⟨S1x2304, .f32⟩
  | .local _ .vmem, ⟨15, _⟩ => ⟨S4x7x8x2304, .i8⟩
  | .local _ .vmem, ⟨16, _⟩ => ⟨S4x2304, .f32⟩
  | .local _ .vmem, ⟨17, _⟩ => ⟨S4x2304, .fp8e4m3⟩
  | .local _ .vmem, ⟨18, _⟩ => ⟨S4x1, .f32⟩
  | .local _ .vmem, ⟨19, _⟩ => ⟨S4x384, .fp8e4m3⟩
  | .local _ .vmem, ⟨20, _⟩ => ⟨S4x1, .f32⟩
  | .local _ .vmem, ⟨21, _⟩ => ⟨S3x224x1536, .bf16⟩
  | .local _ .vmem, ⟨22, _⟩ => ⟨S9x4x7x8x256, .f32⟩
  | .local _ .vmem, ⟨23, _⟩ => ⟨S9x4x256, .f32⟩
  | .local _ .vmem, ⟨24, _⟩ => ⟨S9x4x256, .f32⟩
  | .local _ .smem, ⟨0, _⟩ => ⟨S4, .f32⟩
  | .local _ .smem, ⟨1, _⟩ => ⟨S1x1, .f32⟩
  | _, _ => ⟨S4x7x8x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev main_v7_6 : Ref sig .tc := ⟨.hbm, 25, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_stg1_0 : Ref sig .tc := ⟨.smem, 0, rfl⟩
abbrev cc0_stg13_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22

abbrev nD : Nat := 1
abbrev τ : Topo := Topo.v7x

variable {F : FTy → Type} [FloatOps F]

abbrev grid0 : Pipeline.Grid := ⟨1, ![9], ![false]⟩

def k0_off1 (i : grid0.Coords) : Fin 5 → Nat :=
  let arg0 : BitVec 32 := BitVec.ofNat 32 (i 0).val
  let v97 : Index := Scalar.indexCast arg0
  let c0_79 : Index := 0#32
  let c0_80 : Index := 0#32
  let c0_81 : Index := 0#32
  let c0_82 : Index := 0#32
  ![v97.toNat, 0, 0, 0, 0]
def k0_off2 (i : grid0.Coords) : Fin 3 → Nat :=
  let arg0 : BitVec 32 := BitVec.ofNat 32 (i 0).val
  let v106 : Index := Scalar.indexCast arg0
  let c0_86 : Index := 0#32
  let c0_87 : Index := 0#32
  ![v106.toNat, 0, 0]
def k0_off3 (i : grid0.Coords) : Fin 5 → Nat :=
  let arg0 : BitVec 32 := BitVec.ofNat 32 (i 0).val
  let v140 : Index := Scalar.indexCast arg0
  let c1_99 : Index := 1#32
  let c0_100 : Index := 0#32
  let c0_101 : Index := 0#32
  let c0_102 : Index := 0#32
  ![v140.toNat, 1, 0, 0, 0]
def k0_off4 (i : grid0.Coords) : Fin 3 → Nat :=
  let arg0 : BitVec 32 := BitVec.ofNat 32 (i 0).val
  let v149 : Index := Scalar.indexCast arg0
  let c1_106 : Index := 1#32
  let c0_107 : Index := 0#32
  ![v149.toNat, 1, 0]
def k0_off5 (i : grid0.Coords) : Fin 5 → Nat :=
  let arg0 : BitVec 32 := BitVec.ofNat 32 (i 0).val
  let v183 : Index := Scalar.indexCast arg0
  let c2_119 : Index := 2#32
  let c0_120 : Index := 0#32
  let c0_121 : Index := 0#32
  let c0_122 : Index := 0#32
  ![v183.toNat, 2, 0, 0, 0]
def k0_off6 (i : grid0.Coords) : Fin 3 → Nat :=
  let arg0 : BitVec 32 := BitVec.ofNat 32 (i 0).val
  let v192 : Index := Scalar.indexCast arg0
  let c2_126 : Index := 2#32
  let c0_127 : Index := 0#32
  ![v192.toNat, 2, 0]
def k0_off7 (i : grid0.Coords) : Fin 5 → Nat :=
  let arg0 : BitVec 32 := BitVec.ofNat 32 (i 0).val
  let v226 : Index := Scalar.indexCast arg0
  let c3_138 : Index := 3#32
  let c0_139 : Index := 0#32
  let c0_140 : Index := 0#32
  let c0_141 : Index := 0#32
  ![v226.toNat, 3, 0, 0, 0]
def k0_off8 (i : grid0.Coords) : Fin 3 → Nat :=
  let arg0 : BitVec 32 := BitVec.ofNat 32 (i 0).val
  let v235 : Index := Scalar.indexCast arg0
  let c3_145 : Index := 3#32
  let c0_146 : Index := 0#32
  ![v235.toNat, 3, 0]
def k0_cond2 (i : grid0.Coords) : BitVec 1 :=
  let arg0 : BitVec 32 := BitVec.ofNat 32 (i 0).val
  let c8_i32 : BitVec 32 := 8#32
  let v247 : BitVec 1 := Scalar.cmpi .eq arg0 c8_i32
  let v248 : BitVec 32 := Scalar.extui v247
  let c0_i32_151 : BitVec 32 := 0#32
  let v249 : BitVec 1 := Scalar.cmpi .ne v248 c0_i32_151
  v249

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x7x8x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x3x1536x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2304 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2304 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x7x8x2304 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x2304 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x2304 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x384 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "inv_hw" => some ((1 / 56 : ℝ) : EReal)
  | _ => none
-- ==== ReferenceIdeal.lean ====
abbrev S4x7x8x1536 : Shape := ⟨4, ![4, 7, 8, 1536]⟩
abbrev S4 : Shape := ⟨1, ![4]⟩
abbrev S3x3x1536x2304 : Shape := ⟨4, ![3, 3, 1536, 2304]⟩
abbrev S2304 : Shape := ⟨1, ![2304]⟩
abbrev S2304x384 : Shape := ⟨2, ![2304, 384]⟩
abbrev S384 : Shape := ⟨1, ![384]⟩
abbrev S384x2304 : Shape := ⟨2, ![384, 2304]⟩
abbrev S4x7x8x2304 : Shape := ⟨4, ![4, 7, 8, 2304]⟩
abbrev S1x1 : Shape := ⟨2, ![1, 1]⟩
abbrev S4x2304 : Shape := ⟨2, ![4, 2304]⟩
abbrev S4x1 : Shape := ⟨2, ![4, 1]⟩
abbrev S4x384 : Shape := ⟨2, ![4, 384]⟩
abbrev S4x1x8x1536 : Shape := ⟨4, ![4, 1, 8, 1536]⟩
abbrev S4x8x8x1536 : Shape := ⟨4, ![4, 8, 8, 1536]⟩
abbrev S4x9x8x1536 : Shape := ⟨4, ![4, 9, 8, 1536]⟩
abbrev S4x9x1x1536 : Shape := ⟨4, ![4, 9, 1, 1536]⟩
abbrev S4x9x9x1536 : Shape := ⟨4, ![4, 9, 9, 1536]⟩
abbrev S4x9x10x1536 : Shape := ⟨4, ![4, 9, 10, 1536]⟩
abbrev S4x7x8x13824 : Shape := ⟨4, ![4, 7, 8, 13824]⟩
abbrev S224x13824 : Shape := ⟨2, ![224, 13824]⟩
abbrev S13824x2304 : Shape := ⟨2, ![13824, 2304]⟩
abbrev S224x2304 : Shape := ⟨2, ![224, 2304]⟩
abbrev S4x1x1x1 : Shape := ⟨4, ![4, 1, 1, 1]⟩
abbrev S1x1x1x2304 : Shape := ⟨4, ![1, 1, 1, 2304]⟩
abbrev S4x1x1x2304 : Shape := ⟨4, ![4, 1, 1, 2304]⟩
abbrev S1x384 : Shape := ⟨2, ![1, 384]⟩
abbrev S1x2304 : Shape := ⟨2, ![1, 2304]⟩
abbrev S1x4x7x8x2304 : Shape := ⟨5, ![1, 4, 7, 8, 2304]⟩
abbrev S1 : Shape := ⟨1, ![1]⟩
abbrev S1x1x1x1x1 : Shape := ⟨5, ![1, 1, 1, 1, 1]⟩

abbrev nBuf : Space → Nat
  | .hbm => 19
  | .vmem => 19
  | .smem => 0
  | _ => 0

abbrev bufTy : (tb : Table) → Fin (tcTables nBuf tb) → BufTy
  | .hbm, ⟨0, _⟩ => ⟨S4x7x8x1536, .i8⟩
  | .hbm, ⟨1, _⟩ => ⟨S4, .f32⟩
  | .hbm, ⟨2, _⟩ => ⟨S3x3x1536x2304, .i8⟩
  | .hbm, ⟨3, _⟩ => ⟨S2304, .f32⟩
  | .hbm, ⟨4, _⟩ => ⟨S2304, .f32⟩
  | .hbm, ⟨5, _⟩ => ⟨S2304, .f32⟩
  | .hbm, ⟨6, _⟩ => ⟨S2304x384, .fp8e4m3⟩
  | .hbm, ⟨7, _⟩ => ⟨S384, .f32⟩
  | .hbm, ⟨8, _⟩ => ⟨S384, .f32⟩
  | .hbm, ⟨9, _⟩ => ⟨S384x2304, .fp8e4m3⟩
  | .hbm, ⟨10, _⟩ => ⟨S2304, .f32⟩
  | .hbm, ⟨11, _⟩ => ⟨S2304, .f32⟩
  | .hbm, ⟨12, _⟩ => ⟨S4x7x8x2304, .i8⟩
  | .hbm, ⟨13, _⟩ => ⟨S1x1, .f32⟩
  | .hbm, ⟨14, _⟩ => ⟨S4x2304, .f32⟩
  | .hbm, ⟨15, _⟩ => ⟨S4x2304, .fp8e4m3⟩
  | .hbm, ⟨16, _⟩ => ⟨S4x1, .f32⟩
  | .hbm, ⟨17, _⟩ => ⟨S4x384, .fp8e4m3⟩
  | .hbm, ⟨18, _⟩ => ⟨S4x1, .f32⟩
  | .local _ .vmem, ⟨0, _⟩ => ⟨S4x7x8x1536, .i8⟩
  | .local _ .vmem, ⟨1, _⟩ => ⟨S4, .f32⟩
  | .local _ .vmem, ⟨2, _⟩ => ⟨S3x3x1536x2304, .i8⟩
  | .local _ .vmem, ⟨3, _⟩ => ⟨S2304, .f32⟩
  | .local _ .vmem, ⟨4, _⟩ => ⟨S2304, .f32⟩
  | .local _ .vmem, ⟨5, _⟩ => ⟨S2304, .f32⟩
  | .local _ .vmem, ⟨6, _⟩ => ⟨S2304x384, .fp8e4m3⟩
  | .local _ .vmem, ⟨7, _⟩ => ⟨S384, .f32⟩
  | .local _ .vmem, ⟨8, _⟩ => ⟨S384, .f32⟩
  | .local _ .vmem, ⟨9, _⟩ => ⟨S384x2304, .fp8e4m3⟩
  | .local _ .vmem, ⟨10, _⟩ => ⟨S2304, .f32⟩
  | .local _ .vmem, ⟨11, _⟩ => ⟨S2304, .f32⟩
  | .local _ .vmem, ⟨12, _⟩ => ⟨S4x7x8x2304, .i8⟩
  | .local _ .vmem, ⟨13, _⟩ => ⟨S1x1, .f32⟩
  | .local _ .vmem, ⟨14, _⟩ => ⟨S4x2304, .f32⟩
  | .local _ .vmem, ⟨15, _⟩ => ⟨S4x2304, .fp8e4m3⟩
  | .local _ .vmem, ⟨16, _⟩ => ⟨S4x1, .f32⟩
  | .local _ .vmem, ⟨17, _⟩ => ⟨S4x384, .fp8e4m3⟩
  | .local _ .vmem, ⟨18, _⟩ => ⟨S4x1, .f32⟩
  | _, _ => ⟨S4x7x8x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S4x7x8x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x1536x2304 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S384x2304 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2304 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2304 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x7x8x2304 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x2304 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x2304 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x384 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.KF.Runs.lean ====
/- What the runs of the kernel's grid points share. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 6 rfl).trans ((hA c 6).trans (V_main_arg6 m c)),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 9 rfl).trans ((hA c 9).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_1, k0_cond2, e0]
    word_cmp
   : ∀ t : Fin grid0.N, cond0_1 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x7x8x1536 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x3x1536x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2304x384 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x2304 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2304 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2304 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x7x8x2304 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .smem S1x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4x2304 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x2304 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x384 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S4x1 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S3x224x1536 .bf16 := Memref.whole cc0_scratch0
abbrev scM0_1 : Memref sig .tc .vmem S9x4x7x8x256 .f32 := Memref.whole cc0_scratch1
abbrev scM0_2 : Memref sig .tc .vmem S9x4x256 .f32 := Memref.whole cc0_scratch2
abbrev scM0_3 : Memref sig .tc .vmem S9x4x256 .f32 := Memref.whole cc0_scratch3
/-- The scratch `arg20` the kernel carries between points, as a view: what it holds is stated through it. -/
abbrev VS0_0 : View sig .tc .vmem S3x224x1536 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KF.RunA.lean ====
/- The run of the first grid point. -/
module

public import proofs.«01_k».proof.Proof.KF.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1252000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15, 16, 17, 18) at anything, handed back at some contents nothing names. -/
noncomputable def kernelRun0_A (c : Dev nD) (i : grid0.Coords) (arg1 : Memref sig .tc .vmem S4x7x8x1536 .i8) (harg1 : arg1.IsWhole) (arg2 : Memref sig .tc .smem S4 .f32) (harg2 : arg2.IsWhole) (arg3 : Memref sig .tc .vmem S3x3x1536x256 .i8) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2304x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S384x2304 .fp8e4m3) (harg10 : arg10.IsWhole) (arg11 : Memref sig .tc .vmem S1x2304 .f32) (harg11 : arg11.IsWhole) (arg12 : Memref sig .tc .vmem S1x2304 .f32) (harg12 : arg12.IsWhole) (arg13 : Memref sig .tc .vmem S4x7x8x2304 .i8) (harg13 : arg13.IsWhole) (arg14 : Memref sig .tc .smem S1x1 .f32) (harg14 : arg14.IsWhole) (arg15 : Memref sig .tc .vmem S4x2304 .f32) (harg15 : arg15.IsWhole) (arg16 : Memref sig .tc .vmem S4x2304 .fp8e4m3) (harg16 : arg16.IsWhole) (arg17 : Memref sig .tc .vmem S4x1 .f32) (harg17 : arg17.IsWhole) (arg18 : Memref sig .tc .vmem S4x384 .fp8e4m3) (harg18 : arg18.IsWhole) (arg19 : Memref sig .tc .vmem S4x1 .f32) (harg19 : arg19.IsWhole) (arg20 : Memref sig .tc .vmem S3x224x1536 .bf16) (harg20 : arg20.IsWhole) (arg21 : Memref sig .tc .vmem S9x4x7x8x256 .f32) (harg21 : arg21.IsWhole) (arg22 : Memref sig .tc .vmem S9x4x256 .f32) (harg22 : arg22.IsWhole) (arg23 : Memref sig .tc .vmem S9x4x256 .f32) (harg23 : arg23.IsWhole) (hc0 : cond0_0 i) (hc1 : ¬cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) :
    { LS0 : List (View.Piece (Elt F) S3x224x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LS0) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0__body_eq_skeleton]; unfold cc0__body_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KF.RunB.lean ====
/- The run of a middle grid point. -/
module

public import proofs.«01_k».proof.Proof.KF.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 7: 7 of 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15, 16, 17, 18) at anything, handed back at some contents nothing names. -/
noncomputable def kernelRun0_B (c : Dev nD) (i : grid0.Coords) (arg1 : Memref sig .tc .vmem S4x7x8x1536 .i8) (harg1 : arg1.IsWhole) (arg2 : Memref sig .tc .smem S4 .f32) (harg2 : arg2.IsWhole) (arg3 : Memref sig .tc .vmem S3x3x1536x256 .i8) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2304x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S384x2304 .fp8e4m3) (harg10 : arg10.IsWhole) (arg11 : Memref sig .tc .vmem S1x2304 .f32) (harg11 : arg11.IsWhole) (arg12 : Memref sig .tc .vmem S1x2304 .f32) (harg12 : arg12.IsWhole) (arg13 : Memref sig .tc .vmem S4x7x8x2304 .i8) (harg13 : arg13.IsWhole) (arg14 : Memref sig .tc .smem S1x1 .f32) (harg14 : arg14.IsWhole) (arg15 : Memref sig .tc .vmem S4x2304 .f32) (harg15 : arg15.IsWhole) (arg16 : Memref sig .tc .vmem S4x2304 .fp8e4m3) (harg16 : arg16.IsWhole) (arg17 : Memref sig .tc .vmem S4x1 .f32) (harg17 : arg17.IsWhole) (arg18 : Memref sig .tc .vmem S4x384 .fp8e4m3) (harg18 : arg18.IsWhole) (arg19 : Memref sig .tc .vmem S4x1 .f32) (harg19 : arg19.IsWhole) (arg20 : Memref sig .tc .vmem S3x224x1536 .bf16) (harg20 : arg20.IsWhole) (arg21 : Memref sig .tc .vmem S9x4x7x8x256 .f32) (harg21 : arg21.IsWhole) (arg22 : Memref sig .tc .vmem S9x4x256 .f32) (harg22 : arg22.IsWhole) (arg23 : Memref sig .tc .vmem S9x4x256 .f32) (harg23 : arg23.IsWhole) (hc0 : ¬cond0_0 i) (hc1 : ¬cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) :
    { LS0 : List (View.Piece (Elt F) S3x224x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], fun E K => ?run⟩
  case run =>
    simp only [cc0__body_eq_skeleton]; unfold cc0__body_skel
    simp only [k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]
    · iexists _; isplitr; · ipureintro; exact harg20.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KF.RunC.lean ====
/- The run of the last grid point. -/
module

public import proofs.«01_k».proof.Proof.KF.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1444000 in
/-- What the body's stores leave in each output's staging memref, as pieces (last first) IN CASE C (`scf.if` 0 not taken, `scf.if` 1 taken: points 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12, 13, 14, 15, 16, 17, 18) at anything, handed back at some contents nothing names. -/
noncomputable def kernelRun0_C (c : Dev nD) (i : grid0.Coords) (arg1 : Memref sig .tc .vmem S4x7x8x1536 .i8) (harg1 : arg1.IsWhole) (arg2 : Memref sig .tc .smem S4 .f32) (harg2 : arg2.IsWhole) (arg3 : Memref sig .tc .vmem S3x3x1536x256 .i8) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2304x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S384x2304 .fp8e4m3) (harg10 : arg10.IsWhole) (arg11 : Memref sig .tc .vmem S1x2304 .f32) (harg11 : arg11.IsWhole) (arg12 : Memref sig .tc .vmem S1x2304 .f32) (harg12 : arg12.IsWhole) (arg13 : Memref sig .tc .vmem S4x7x8x2304 .i8) (harg13 : arg13.IsWhole) (arg14 : Memref sig .tc .smem S1x1 .f32) (harg14 : arg14.IsWhole) (arg15 : Memref sig .tc .vmem S4x2304 .f32) (harg15 : arg15.IsWhole) (arg16 : Memref sig .tc .vmem S4x2304 .fp8e4m3) (harg16 : arg16.IsWhole) (arg17 : Memref sig .tc .vmem S4x1 .f32) (harg17 : arg17.IsWhole) (arg18 : Memref sig .tc .vmem S4x384 .fp8e4m3) (harg18 : arg18.IsWhole) (arg19 : Memref sig .tc .vmem S4x1 .f32) (harg19 : arg19.IsWhole) (arg20 : Memref sig .tc .vmem S3x224x1536 .bf16) (harg20 : arg20.IsWhole) (arg21 : Memref sig .tc .vmem S9x4x7x8x256 .f32) (harg21 : arg21.IsWhole) (arg22 : Memref sig .tc .vmem S9x4x256 .f32) (harg22 : arg22.IsWhole) (arg23 : Memref sig .tc .vmem S9x4x256 .f32) (harg23 : arg23.IsWhole) (hc0 : ¬cond0_0 i) (hc1 : cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) :
    { LS0 : List (View.Piece (Elt F) S3x224x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], fun E K => ?run⟩
  case run =>
    simp only [cc0__body_eq_skeleton]; unfold cc0__body_skel
    simp only [k0_part41_eq_skeleton, k0_part42_eq_skeleton, k0_part43_eq_skeleton, k0_part44_eq_skeleton, k0_part45_eq_skeleton, k0_part46_eq_skeleton, k0_part47_eq_skeleton, k0_part40_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [HS0]
    · iexists _; isplitr; · ipureintro; exact harg20.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KF.Frame.lean ====
/- The frame of the kernel at any float instance: it runs, its arguments end unchanged and every semaphore counter at zero. -/
module

public import proofs.«01_k».proof.Proof.KF.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg20`, which the kernel carries between points, cover it: 42 pieces of `S1x16x1536` tiling it (Lib/Ring.lean `Piece.tiledL`). -/
theorem scover0_A_0 (c : Dev nD) (i : grid0.Coords) (arg1 : Memref sig .tc .vmem S4x7x8x1536 .i8) (harg1 : arg1.IsWhole) (arg2 : Memref sig .tc .smem S4 .f32) (harg2 : arg2.IsWhole) (arg3 : Memref sig .tc .vmem S3x3x1536x256 .i8) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2304x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S384x2304 .fp8e4m3) (harg10 : arg10.IsWhole) (arg11 : Memref sig .tc .vmem S1x2304 .f32) (harg11 : arg11.IsWhole) (arg12 : Memref sig .tc .vmem S1x2304 .f32) (harg12 : arg12.IsWhole) (arg13 : Memref sig .tc .vmem S4x7x8x2304 .i8) (harg13 : arg13.IsWhole) (arg14 : Memref sig .tc .smem S1x1 .f32) (harg14 : arg14.IsWhole) (arg15 : Memref sig .tc .vmem S4x2304 .f32) (harg15 : arg15.IsWhole) (arg16 : Memref sig .tc .vmem S4x2304 .fp8e4m3) (harg16 : arg16.IsWhole) (arg17 : Memref sig .tc .vmem S4x1 .f32) (harg17 : arg17.IsWhole) (arg18 : Memref sig .tc .vmem S4x384 .fp8e4m3) (harg18 : arg18.IsWhole) (arg19 : Memref sig .tc .vmem S4x1 .f32) (harg19 : arg19.IsWhole) (arg20 : Memref sig .tc .vmem S3x224x1536 .bf16) (harg20 : arg20.IsWhole) (arg21 : Memref sig .tc .vmem S9x4x7x8x256 .f32) (harg21 : arg21.IsWhole) (arg22 : Memref sig .tc .vmem S9x4x256 .f32) (harg22 : arg22.IsWhole) (arg23 : Memref sig .tc .vmem S9x4x256 .f32) (harg23 : arg23.IsWhole) (hc0 : cond0_0 i) (hc1 : ¬cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (y : S3x224x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).1 S1x16x1536.size (by sl_kernel_rfl) y

/-- What case A leaves in scratch `arg20`: its pieces read back over junk. -/
def sout0_A_0 (c : Dev nD) (i : grid0.Coords) (arg1 : Memref sig .tc .vmem S4x7x8x1536 .i8) (harg1 : arg1.IsWhole) (arg2 : Memref sig .tc .smem S4 .f32) (harg2 : arg2.IsWhole) (arg3 : Memref sig .tc .vmem S3x3x1536x256 .i8) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2304x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S384x2304 .fp8e4m3) (harg10 : arg10.IsWhole) (arg11 : Memref sig .tc .vmem S1x2304 .f32) (harg11 : arg11.IsWhole) (arg12 : Memref sig .tc .vmem S1x2304 .f32) (harg12 : arg12.IsWhole) (arg13 : Memref sig .tc .vmem S4x7x8x2304 .i8) (harg13 : arg13.IsWhole) (arg14 : Memref sig .tc .smem S1x1 .f32) (harg14 : arg14.IsWhole) (arg15 : Memref sig .tc .vmem S4x2304 .f32) (harg15 : arg15.IsWhole) (arg16 : Memref sig .tc .vmem S4x2304 .fp8e4m3) (harg16 : arg16.IsWhole) (arg17 : Memref sig .tc .vmem S4x1 .f32) (harg17 : arg17.IsWhole) (arg18 : Memref sig .tc .vmem S4x384 .fp8e4m3) (harg18 : arg18.IsWhole) (arg19 : Memref sig .tc .vmem S4x1 .f32) (harg19 : arg19.IsWhole) (arg20 : Memref sig .tc .vmem S3x224x1536 .bf16) (harg20 : arg20.IsWhole) (arg21 : Memref sig .tc .vmem S9x4x7x8x256 .f32) (harg21 : arg21.IsWhole) (arg22 : Memref sig .tc .vmem S9x4x256 .f32) (harg22 : arg22.IsWhole) (arg23 : Memref sig .tc .vmem S9x4x256 .f32) (harg23 : arg23.IsWhole) (hc0 : cond0_0 i) (hc1 : ¬cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) : Vec F S3x224x1536 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).1)

/-- Case B stores nothing into scratch `arg20`: it holds what the point before left. -/
def sout0_B_0 (c : Dev nD) (i : grid0.Coords) (arg1 : Memref sig .tc .vmem S4x7x8x1536 .i8) (harg1 : arg1.IsWhole) (arg2 : Memref sig .tc .smem S4 .f32) (harg2 : arg2.IsWhole) (arg3 : Memref sig .tc .vmem S3x3x1536x256 .i8) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2304x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S384x2304 .fp8e4m3) (harg10 : arg10.IsWhole) (arg11 : Memref sig .tc .vmem S1x2304 .f32) (harg11 : arg11.IsWhole) (arg12 : Memref sig .tc .vmem S1x2304 .f32) (harg12 : arg12.IsWhole) (arg13 : Memref sig .tc .vmem S4x7x8x2304 .i8) (harg13 : arg13.IsWhole) (arg14 : Memref sig .tc .smem S1x1 .f32) (harg14 : arg14.IsWhole) (arg15 : Memref sig .tc .vmem S4x2304 .f32) (harg15 : arg15.IsWhole) (arg16 : Memref sig .tc .vmem S4x2304 .fp8e4m3) (harg16 : arg16.IsWhole) (arg17 : Memref sig .tc .vmem S4x1 .f32) (harg17 : arg17.IsWhole) (arg18 : Memref sig .tc .vmem S4x384 .fp8e4m3) (harg18 : arg18.IsWhole) (arg19 : Memref sig .tc .vmem S4x1 .f32) (harg19 : arg19.IsWhole) (arg20 : Memref sig .tc .vmem S3x224x1536 .bf16) (harg20 : arg20.IsWhole) (arg21 : Memref sig .tc .vmem S9x4x7x8x256 .f32) (harg21 : arg21.IsWhole) (arg22 : Memref sig .tc .vmem S9x4x256 .f32) (harg22 : arg22.IsWhole) (arg23 : Memref sig .tc .vmem S9x4x256 .f32) (harg23 : arg23.IsWhole) (hc0 : ¬cond0_0 i) (hc1 : ¬cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) : Vec F S3x224x1536 .bf16 := xs0

/-- Case C stores nothing into scratch `arg20`: it holds what the point before left. -/
def sout0_C_0 (c : Dev nD) (i : grid0.Coords) (arg1 : Memref sig .tc .vmem S4x7x8x1536 .i8) (harg1 : arg1.IsWhole) (arg2 : Memref sig .tc .smem S4 .f32) (harg2 : arg2.IsWhole) (arg3 : Memref sig .tc .vmem S3x3x1536x256 .i8) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S2304x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S384x2304 .fp8e4m3) (harg10 : arg10.IsWhole) (arg11 : Memref sig .tc .vmem S1x2304 .f32) (harg11 : arg11.IsWhole) (arg12 : Memref sig .tc .vmem S1x2304 .f32) (harg12 : arg12.IsWhole) (arg13 : Memref sig .tc .vmem S4x7x8x2304 .i8) (harg13 : arg13.IsWhole) (arg14 : Memref sig .tc .smem S1x1 .f32) (harg14 : arg14.IsWhole) (arg15 : Memref sig .tc .vmem S4x2304 .f32) (harg15 : arg15.IsWhole) (arg16 : Memref sig .tc .vmem S4x2304 .fp8e4m3) (harg16 : arg16.IsWhole) (arg17 : Memref sig .tc .vmem S4x1 .f32) (harg17 : arg17.IsWhole) (arg18 : Memref sig .tc .vmem S4x384 .fp8e4m3) (harg18 : arg18.IsWhole) (arg19 : Memref sig .tc .vmem S4x1 .f32) (harg19 : arg19.IsWhole) (arg20 : Memref sig .tc .vmem S3x224x1536 .bf16) (harg20 : arg20.IsWhole) (arg21 : Memref sig .tc .vmem S9x4x7x8x256 .f32) (harg21 : arg21.IsWhole) (arg22 : Memref sig .tc .vmem S9x4x256 .f32) (harg22 : arg22.IsWhole) (arg23 : Memref sig .tc .vmem S9x4x256 .f32) (harg23 : arg23.IsWhole) (hc0 : ¬cond0_0 i) (hc1 : cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) : Vec F S3x224x1536 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3x224x1536 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩)
  | n + 1, hn =>
    if h0 : (n + 1) % 9 = 0 then
      if h1 : (n + 1) % 9 = 8 then
        False.elim (by have hN : n + 1 < 9 := lt_of_lt_of_eq hn (show cfg0.N = 9 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩)
    else
      if h1 : (n + 1) % 9 = 8 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn))

/-- `outsAt0` at a point of case A: that case's contents. -/
theorem outsAt0_A (c : Dev nD) (t : Fin cfg0.N) (h0 : t.val % 9 = 0) (h1 : ¬t.val % 9 = 8) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 9 = 0) (h1 : ¬t.val % 9 = 8) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 9 = 0) (h1 : t.val % 9 = 8) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (12, 13, 14, 15, 16, 17, 18): nothing reads what the kernel leaves in them, so nothing
    of it is named (Lib/Pipeline/Dat.lean `Dat.toRForget`). -/
def forgets0 : Fin 19 → Bool := fun w => w.val == 12 || w.val == 13 || w.val == 14 || w.val == 15 || w.val == 16 || w.val == 17 || w.val == 18

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : t.val % 9 = 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · rw [PhiS_castSucc m c t, PhiS_zero m c _ _ hz, PhiA0_eq]
        rw [outsAt0_A m c t h0 h1]
        unfold sout0_A_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, ⟨%es0, HS0⟩, HS1, HS2, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact H18
      · exfalso; have hN : t.val < 9 := lt_of_lt_of_eq t.isLt (show cfg0.N = 9 from N_0); omega
  · by_cases h1 : t.val % 9 = 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 9 := lt_of_lt_of_eq t.isLt (show cfg0.N = 9 from N_0); omega
      · rw [PhiS_castSucc m c t, PhiS_pos m c _ _ hz]
        rw [outsAt0_C m c t h0 h1]
        unfold sout0_C_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact H18
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      by_cases hz : t.val = 0
      · exfalso; have hN : t.val < 9 := lt_of_lt_of_eq t.isLt (show cfg0.N = 9 from N_0); omega
      · rw [PhiS_castSucc m c t, PhiS_pos m c _ _ hz]
        rw [outsAt0_B m c t h0 h1]
        unfold sout0_B_0
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, HS0, HS1, HS2, HS3⟩
        isplitl [HS0 HS1 HS2 HS3 Hg]
        · isplitl [HS0 HS1 HS2 HS3]
          · isplitl [HS0]
            · iexact HS0
            isplitl [HS1]
            · iexact HS1
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 12, 13, 14, 15, 16, 17, 18) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Gen

end
-- ==== Proof.KI.Warm.lean ====
module

public import proofs.«01_k».proof.Proof.Gen.KernelIdeal.Skeleton
public import proofs.«01_k».proof.Proof.Gen.KernelIdeal.Points
public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_1, k0_cond2, e0]
    word_cmp
   : ∀ t : Fin grid0.N, cond0_1 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4x7x8x1536 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x3x1536x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2304x384 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x2304 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2304 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2304 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x7x8x2304 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .smem S1x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4x2304 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x2304 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S4x384 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S4x1 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S3x224x1536 .bf16 := Memref.whole cc0_scratch0
abbrev scM0_1 : Memref sig .tc .vmem S9x4x7x8x256 .f32 := Memref.whole cc0_scratch1
abbrev scM0_2 : Memref sig .tc .vmem S9x4x256 .f32 := Memref.whole cc0_scratch2
abbrev scM0_3 : Memref sig .tc .vmem S9x4x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (c : Dev nD) (i : grid0.Coords)
  (arg1 : Memref sig .tc .vmem S4x7x8x1536 .i8) (harg1 : arg1.IsWhole)
  (arg2 : Memref sig .tc .smem S4 .f32) (harg2 : arg2.IsWhole)
  (arg3 : Memref sig .tc .vmem S3x3x1536x256 .i8) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S2304x384 .fp8e4m3) (harg7 : arg7.IsWhole)
  (arg8 : Memref sig .tc .vmem S1x384 .f32) (harg8 : arg8.IsWhole)
  (arg9 : Memref sig .tc .vmem S1x384 .f32) (harg9 : arg9.IsWhole)
  (arg10 : Memref sig .tc .vmem S384x2304 .fp8e4m3) (harg10 : arg10.IsWhole)
  (arg11 : Memref sig .tc .vmem S1x2304 .f32) (harg11 : arg11.IsWhole)
  (arg12 : Memref sig .tc .vmem S1x2304 .f32) (harg12 : arg12.IsWhole)
  (arg13 : Memref sig .tc .vmem S4x7x8x2304 .i8) (harg13 : arg13.IsWhole)
  (arg14 : Memref sig .tc .smem S1x1 .f32) (harg14 : arg14.IsWhole)
  (arg15 : Memref sig .tc .vmem S4x2304 .f32) (harg15 : arg15.IsWhole)
  (arg16 : Memref sig .tc .vmem S4x2304 .fp8e4m3) (harg16 : arg16.IsWhole)
  (arg17 : Memref sig .tc .vmem S4x1 .f32) (harg17 : arg17.IsWhole)
  (arg18 : Memref sig .tc .vmem S4x384 .fp8e4m3) (harg18 : arg18.IsWhole)
  (arg19 : Memref sig .tc .vmem S4x1 .f32) (harg19 : arg19.IsWhole)
  (arg20 : Memref sig .tc .vmem S3x224x1536 .bf16) (harg20 : arg20.IsWhole)
  (arg21 : Memref sig .tc .vmem S9x4x7x8x256 .f32) (harg21 : arg21.IsWhole)
  (arg22 : Memref sig .tc .vmem S9x4x256 .f32) (harg22 : arg22.IsWhole)
  (arg23 : Memref sig .tc .vmem S9x4x256 .f32) (harg23 : arg23.IsWhole)

/-- The printed body with every part replaced by its skeleton, once: what the runs rewrite by. -/
theorem parts_skel (K : Prog (TpuEff nD τ sig (Elt F) Λ₀ .tc) PUnit → Prop) (h : ∀ p, K p) :
    K (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  exact h _

end Cert.KernelIdeal.Run

end
-- ==== Proof.KI.Body.lean ====
module

public import proofs.«01_k».proof.Proof.KI.Warm

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-- Row `h` of image `b`, as numbers. -/
def xrow (x : Vec F S4x7x8x1536 .i8) (b h : Nat) (hb : ∀ a, (![b, h, 0, 0] : Fin 4 → Nat) a + S1x1x8x1536.size a ≤ S4x7x8x1536.size a) : FVec F S8x1536 .f32 :=
  sitofp .f32 (extsi 32 (shapeCast S8x1536 (View.ld x (Rect.unit ![b, h, 0, 0] S1x1x8x1536.size hb)) shapeCasts_S1x1x8x1536_S8x1536) natLt_8_32)

/-- A row rotated by `r` columns, with zeros in column `z`: the row shifted by one. -/
def shift (v : FVec F S8x1536 .f32) (r z : BitVec 32) : FVec F S8x1536 .f32 :=
  select (cmpi .eq (iota .tc S8x1536 32 [0] iota_S8x1536_d0_w32) (broadcast S8x1536 z)) (broadcast S8x1536 (Scalar.ofBits .f32 0x00000000#32))
    (dynamicRotate 0 r none v rotates_S8x1536_d0)

/-- Two rows stacked, in the format the products are taken in. -/
def stack (u v : FVec F S8x1536 .f32) : FVec F S1x16x1536 .bf16 :=
  shapeCast S1x16x1536 (truncf .bf16 (concatenate S16x1536 0 [⟨S8x1536, u⟩, ⟨S8x1536, v⟩] concatenates_S8x1536_S8x1536_S16x1536_d0) bitsLt_bf16_f32) shapeCasts_S16x1536_S1x16x1536

/-- The rows of pair `g` lie inside the input. -/
theorem inbx (g : Fin 14) (u : Fin 2) : ∀ a, (![2 * (g.val % 2) + u.val, g.val / 2, 0, 0] : Fin 4 → Nat) a + S1x1x8x1536.size a ≤ S4x7x8x1536.size a := by revert g u; decide
/-- The rows of pair `g` lie inside the buffer of shifted inputs. -/
theorem inbk (k : Fin 3) (g : Fin 14) : ∀ a, (![k.val, 16 * g.val, 0] : Fin 3 → Nat) a + S1x16x1536.size a ≤ S3x224x1536.size a := by revert k g; decide

/-- What the first point stores into the buffer of shifted inputs, last first: for each pair of rows the copy shifted left, the copy as it is,
    and the copy shifted right. -/
def xkL (x : Vec F S4x7x8x1536 .i8) : List (View.Piece (Elt F) S3x224x1536 .bf16) :=
  ([13, 12, 11, 10, 9, 8, 7, 6, 5, 4, 3, 2, 1, 0] : List (Fin 14)).flatMap fun g =>
    [⟨Rect.unit ![(2 : Fin 3).val, 16 * g.val, 0] S1x16x1536.size (inbk 2 g), stack (shift (xrow x _ _ (inbx g 0)) 7#32 7#32) (shift (xrow x _ _ (inbx g 1)) 7#32 7#32)⟩,
      ⟨Rect.unit ![(1 : Fin 3).val, 16 * g.val, 0] S1x16x1536.size (inbk 1 g), stack (xrow x _ _ (inbx g 0)) (xrow x _ _ (inbx g 1))⟩,
      ⟨Rect.unit ![(0 : Fin 3).val, 16 * g.val, 0] S1x16x1536.size (inbk 0 g), stack (shift (xrow x _ _ (inbx g 0)) 1#32 0#32) (shift (xrow x _ _ (inbx g 1)) 1#32 0#32)⟩]

/-- The convolution accumulator of one channel tile, from the three horizontally shifted copies of the input and the tile's weights:
    the middle row tap over all rows, the upper and lower taps over the rows that have a neighbour, glued in with zeros. -/
def acc (xk : Vec F S3x224x1536 .bf16) (w : Vec F S3x3x1536x256 .i8) : FVec F S7x4x8x256 .f32 :=
  k0_pay173
    (k0_pay170 (k0_pay168 (View.ld xk (Rect.unit ![0, 0, 0] S1x192x1536.size inb_S3x224x1536_S1x192x1536_0_0_0)) (View.ld w (Rect.unit ![0, 0, 0, 0] S1x1x1536x256.size inb_S3x3x1536x256_S1x1x1536x256_0_0_0_0)))
      (View.ld xk (Rect.unit ![1, 0, 0] S1x192x1536.size inb_S3x224x1536_S1x192x1536_1_0_0)) (View.ld w (Rect.unit ![0, 1, 0, 0] S1x1x1536x256.size inb_S3x3x1536x256_S1x1x1536x256_0_1_0_0)))
    (k0_pay171 (k0_pay169 (View.ld xk (Rect.unit ![0, 32, 0] S1x192x1536.size inb_S3x224x1536_S1x192x1536_0_32_0)) (View.ld w (Rect.unit ![2, 0, 0, 0] S1x1x1536x256.size inb_S3x3x1536x256_S1x1x1536x256_2_0_0_0)))
      (View.ld xk (Rect.unit ![1, 32, 0] S1x192x1536.size inb_S3x224x1536_S1x192x1536_1_32_0)) (View.ld w (Rect.unit ![2, 1, 0, 0] S1x1x1536x256.size inb_S3x3x1536x256_S1x1x1536x256_2_1_0_0)))
    (k0_pay172 (k0_pay167 (View.ld xk (Rect.unit ![0, 0, 0] S1x224x1536.size inb_S3x224x1536_S1x224x1536_0_0_0)) (View.ld w (Rect.unit ![1, 0, 0, 0] S1x1x1536x256.size inb_S3x3x1536x256_S1x1x1536x256_1_0_0_0)))
      (View.ld xk (Rect.unit ![1, 0, 0] S1x224x1536.size inb_S3x224x1536_S1x224x1536_1_0_0)) (View.ld w (Rect.unit ![1, 1, 0, 0] S1x1x1536x256.size inb_S3x3x1536x256_S1x1x1536x256_1_1_0_0))
      (View.ld xk (Rect.unit ![2, 0, 0] S1x224x1536.size inb_S3x224x1536_S1x224x1536_2_0_0)) (View.ld w (Rect.unit ![1, 2, 0, 0] S1x1x1536x256.size inb_S3x3x1536x256_S1x1x1536x256_1_2_0_0)))
    (View.ld xk (Rect.unit ![2, 0, 0] S1x192x1536.size inb_S3x224x1536_S1x192x1536_2_0_0)) (View.ld w (Rect.unit ![0, 2, 0, 0] S1x1x1536x256.size inb_S3x3x1536x256_S1x1x1536x256_0_2_0_0))
    (View.ld xk (Rect.unit ![2, 32, 0] S1x192x1536.size inb_S3x224x1536_S1x192x1536_2_32_0)) (View.ld w (Rect.unit ![2, 2, 0, 0] S1x1x1536x256.size inb_S3x3x1536x256_S1x1x1536x256_2_2_0_0))

/-- The one row of a `1 × 256` operand as the kernel loads it. -/
def row (x : Vec F S1x256 .f32) : Vec F S1x256 .f32 := View.ld x (Rect.unit ![0, 0] S1x256.size inb_S1x256_S1x256_0_0)

/-- The scale of image `b`, one scalar of the four. -/
def scal (x : Vec F S4 .f32) (b : Nat) (hb : ∀ a, (![b] : Fin 1 → Nat) a + S1.size a ≤ S4.size a) : Elt F .f32 :=
  View.ld x (Rect.unit ![b] S1.size hb) (Shape.Idx.first (show 0 < S1.numel by decide))

/-- The activation of image `b` over one channel tile: scale, batch norm and the logistic gate of the accumulator's slice. -/
def actT (A : FVec F S7x4x8x256 .f32) (s : Elt F .f32) (ws bns bnb : Vec F S1x256 .f32) (b : Nat) (hb : S7x4x8x256.Slices ![0, b, 0, 0] S7x1x8x256) :
    FVec F S7x8x256 .f32 :=
  let z := addf (mulf (mulf (shapeCast S7x8x256 (extractStridedSlice S7x1x8x256 ![0, b, 0, 0] A hb) shapeCasts_S7x1x8x256_S7x8x256)
      (broadcastTo S7x8x256 (shapeCast S1x1x256 (mulf (broadcast S1x256 s) (shapeCast S1x256 ws shapeCasts_S1x256_S1x256)) shapeCasts_S1x256_S1x1x256) broadcasts_S1x1x256_S7x8x256))
      (broadcastTo S7x8x256 (shapeCast S1x1x256 (shapeCast S1x256 bns shapeCasts_S1x256_S1x256) shapeCasts_S1x256_S1x1x256) broadcasts_S1x1x256_S7x8x256))
      (broadcastTo S7x8x256 (shapeCast S1x1x256 (shapeCast S1x256 bnb shapeCasts_S1x256_S1x256) shapeCasts_S1x256_S1x1x256) broadcasts_S1x1x256_S7x8x256)
  mulf z (logistic z)

/-- The spatial mean of an activation tile. -/
def poolT (a : FVec F S7x8x256 .f32) : FVec F S1x1x256 .f32 :=
  shapeCast S1x1x256 (mulf (shapeCast S1x256 (multiReduction .add [0] S256 (multiReduction .add [0] S8x256 a 0x00000000#32 reduces_S7x8x256_S8x256 (.inl rfl) rfl)
    0x00000000#32 reduces_S8x256_S256 (.inl rfl) rfl) shapeCasts_S256_S1x256) (broadcast S1x256 (Named.named κ "inv_hw" 0x3C924925#32))) shapeCasts_S1x256_S1x1x256

/-- The largest magnitude of an activation tile, channel by channel. -/
def maxT (a : FVec F S7x8x256 .f32) : FVec F S1x1x256 .f32 :=
  shapeCast S1x1x256 (shapeCast S1x256 (multiReduction .maximumf [0] S256 (multiReduction .maximumf [0] S8x256 (absf a) 0xFF800000#32 reduces_S7x8x256_S8x256 (.inl rfl) rfl)
    0xFF800000#32 reduces_S8x256_S256 (.inl rfl) rfl) shapeCasts_S256_S1x256) shapeCasts_S1x256_S1x1x256

/-- The activation of image `b`, from the operands of one grid point. -/
def act (xk : Vec F S3x224x1536 .bf16) (x1 : Vec F S4 .f32) (x2 : Vec F S3x3x1536x256 .i8) (x3 x4 x5 : Vec F S1x256 .f32) (b : Nat)
    (hs : ∀ a, (![b] : Fin 1 → Nat) a + S1.size a ≤ S4.size a) (hb : S7x4x8x256.Slices ![0, b, 0, 0] S7x1x8x256) : FVec F S7x8x256 .f32 :=
  actT (acc xk x2) (scal x1 b hs) (row x3) (row x4) (row x5) b hb

/-- What a grid point stores into the activation buffer, last first. -/
def L1 (i : grid0.Coords) (xk : Vec F S3x224x1536 .bf16) (x1 : Vec F S4 .f32) (x2 : Vec F S3x3x1536x256 .i8) (x3 x4 x5 : Vec F S1x256 .f32) : List (View.Piece (Elt F) S9x4x7x8x256 .f32) :=
  [⟨Rect.unit (k0_off7 i) S1x1x7x8x256.size (k0_off7_inb i), shapeCast S1x1x7x8x256 (act xk x1 x2 x3 x4 x5 3 inb_S4_S1_3 slices_S7x4x8x256_o0_3_0_0_S7x1x8x256) shapeCasts_S7x8x256_S1x1x7x8x256⟩,
    ⟨Rect.unit (k0_off5 i) S1x1x7x8x256.size (k0_off5_inb i), shapeCast S1x1x7x8x256 (act xk x1 x2 x3 x4 x5 2 inb_S4_S1_2 slices_S7x4x8x256_o0_2_0_0_S7x1x8x256) shapeCasts_S7x8x256_S1x1x7x8x256⟩,
    ⟨Rect.unit (k0_off3 i) S1x1x7x8x256.size (k0_off3_inb i), shapeCast S1x1x7x8x256 (act xk x1 x2 x3 x4 x5 1 inb_S4_S1_1 slices_S7x4x8x256_o0_1_0_0_S7x1x8x256) shapeCasts_S7x8x256_S1x1x7x8x256⟩,
    ⟨Rect.unit (k0_off1 i) S1x1x7x8x256.size (k0_off1_inb i), shapeCast S1x1x7x8x256 (act xk x1 x2 x3 x4 x5 0 inb_S4_S1_0 slices_S7x4x8x256_o0_0_0_0_S7x1x8x256) shapeCasts_S7x8x256_S1x1x7x8x256⟩]

/-- What a grid point stores into the buffer of means, last first. -/
def L2 (i : grid0.Coords) (xk : Vec F S3x224x1536 .bf16) (x1 : Vec F S4 .f32) (x2 : Vec F S3x3x1536x256 .i8) (x3 x4 x5 : Vec F S1x256 .f32) : List (View.Piece (Elt F) S9x4x256 .f32) :=
  [⟨Rect.unit (k0_off8 i) S1x1x256.size (k0_off8_inb i), poolT (act xk x1 x2 x3 x4 x5 3 inb_S4_S1_3 slices_S7x4x8x256_o0_3_0_0_S7x1x8x256)⟩,
    ⟨Rect.unit (k0_off6 i) S1x1x256.size (k0_off6_inb i), poolT (act xk x1 x2 x3 x4 x5 2 inb_S4_S1_2 slices_S7x4x8x256_o0_2_0_0_S7x1x8x256)⟩,
    ⟨Rect.unit (k0_off4 i) S1x1x256.size (k0_off4_inb i), poolT (act xk x1 x2 x3 x4 x5 1 inb_S4_S1_1 slices_S7x4x8x256_o0_1_0_0_S7x1x8x256)⟩,
    ⟨Rect.unit (k0_off2 i) S1x1x256.size (k0_off2_inb i), poolT (act xk x1 x2 x3 x4 x5 0 inb_S4_S1_0 slices_S7x4x8x256_o0_0_0_0_S7x1x8x256)⟩]

/-- What a grid point stores into the buffer of largest magnitudes, last first. -/
def L3 (i : grid0.Coords) (xk : Vec F S3x224x1536 .bf16) (x1 : Vec F S4 .f32) (x2 : Vec F S3x3x1536x256 .i8) (x3 x4 x5 : Vec F S1x256 .f32) : List (View.Piece (Elt F) S9x4x256 .f32) :=
  [⟨Rect.unit (k0_off8 i) S1x1x256.size (k0_off8_inb i), maxT (act xk x1 x2 x3 x4 x5 3 inb_S4_S1_3 slices_S7x4x8x256_o0_3_0_0_S7x1x8x256)⟩,
    ⟨Rect.unit (k0_off6 i) S1x1x256.size (k0_off6_inb i), maxT (act xk x1 x2 x3 x4 x5 2 inb_S4_S1_2 slices_S7x4x8x256_o0_2_0_0_S7x1x8x256)⟩,
    ⟨Rect.unit (k0_off4 i) S1x1x256.size (k0_off4_inb i), maxT (act xk x1 x2 x3 x4 x5 1 inb_S4_S1_1 slices_S7x4x8x256_o0_1_0_0_S7x1x8x256)⟩,
    ⟨Rect.unit (k0_off2 i) S1x1x256.size (k0_off2_inb i), maxT (act xk x1 x2 x3 x4 x5 0 inb_S4_S1_0 slices_S7x4x8x256_o0_0_0_0_S7x1x8x256)⟩]

/-- The nine tiles of a `9 × 4 × 256` buffer side by side. -/
def cat9 (S : Vec F S9x4x256 .f32) : FVec F S4x2304 .f32 :=
  k0_pay90 (View.ld S (Rect.unit ![0, 0, 0] S1x4x256.size inb_S9x4x256_S1x4x256_0_0_0)) (View.ld S (Rect.unit ![1, 0, 0] S1x4x256.size inb_S9x4x256_S1x4x256_1_0_0)) (View.ld S (Rect.unit ![2, 0, 0] S1x4x256.size inb_S9x4x256_S1x4x256_2_0_0)) (View.ld S (Rect.unit ![3, 0, 0] S1x4x256.size inb_S9x4x256_S1x4x256_3_0_0)) (View.ld S (Rect.unit ![4, 0, 0] S1x4x256.size inb_S9x4x256_S1x4x256_4_0_0)) (View.ld S (Rect.unit ![5, 0, 0] S1x4x256.size inb_S9x4x256_S1x4x256_5_0_0)) (View.ld S (Rect.unit ![6, 0, 0] S1x4x256.size inb_S9x4x256_S1x4x256_6_0_0)) (View.ld S (Rect.unit ![7, 0, 0] S1x4x256.size inb_S9x4x256_S1x4x256_7_0_0)) (View.ld S (Rect.unit ![8, 0, 0] S1x4x256.size inb_S9x4x256_S1x4x256_8_0_0))

/-- The lane counter both quantisers compare with. -/
def lanes : IVec S4x256 32 := iota .tc S4x256 32 [1] iota_S4x256_d1_w32

/-- The value whose exponent the first quantiser takes: the largest magnitude of the means over 448. -/
def tP (S : Vec F S9x4x256 .f32) : FVec F S4x1 .f32 :=
  k0_pay91 (View.ld S (Rect.unit ![0, 0, 0] S1x4x256.size inb_S9x4x256_S1x4x256_0_0_0)) (View.ld S (Rect.unit ![1, 0, 0] S1x4x256.size inb_S9x4x256_S1x4x256_1_0_0)) (View.ld S (Rect.unit ![2, 0, 0] S1x4x256.size inb_S9x4x256_S1x4x256_2_0_0)) (View.ld S (Rect.unit ![3, 0, 0] S1x4x256.size inb_S9x4x256_S1x4x256_3_0_0)) (View.ld S (Rect.unit ![4, 0, 0] S1x4x256.size inb_S9x4x256_S1x4x256_4_0_0)) (View.ld S (Rect.unit ![5, 0, 0] S1x4x256.size inb_S9x4x256_S1x4x256_5_0_0)) (View.ld S (Rect.unit ![6, 0, 0] S1x4x256.size inb_S9x4x256_S1x4x256_6_0_0)) (View.ld S (Rect.unit ![7, 0, 0] S1x4x256.size inb_S9x4x256_S1x4x256_7_0_0)) (View.ld S (Rect.unit ![8, 0, 0] S1x4x256.size inb_S9x4x256_S1x4x256_8_0_0))

/-- The scale of the quantised means. -/
def ps (S : Vec F S9x4x256 .f32) : FVec F S4x1 .f32 := k0_pay94 lanes (tP S) k0_pay92

/-- The means over their scale, bounded below. -/
def pv (S : Vec F S9x4x256 .f32) : FVec F S4x2304 .f32 := k0_pay95 (cat9 S) lanes (tP S) k0_pay92

/-- The quantised means. -/
def pc (S : Vec F S9x4x256 .f32) : FVec F S4x2304 .fp8e4m3 := k0_pay96 (Scalar.ofBits .f32 0x43E00000#32) (pv S)

variable (S2 S3 : Vec F S9x4x256 .f32) (x6 : Vec F S2304x384 .fp8e4m3) (x7 x8 : Vec F S1x384 .f32) (x9 : Vec F S384x2304 .fp8e4m3) (x10 x11 : Vec F S1x2304 .f32)

/-- The hidden layer. -/
def hid : FVec F S4x384 .f32 := k0_pay97 (ps S2) (Scalar.ofBits .f32 0x43E00000#32) (pv S2) (View.ld x6 (Rect.unit ![0, 0] S2304x384.size inb_S2304x384_S2304x384_0_0)) (View.ld x7 (Rect.unit ![0, 0] S1x384.size inb_S1x384_S1x384_0_0)) (View.ld x8 (Rect.unit ![0, 0] S1x384.size inb_S1x384_S1x384_0_0))

/-- The second quantiser's comparisons. -/
def hcmp : IVec S4x256 1 := k0_pay98 (ps S2) (Scalar.ofBits .f32 0x43E00000#32) (pv S2) (View.ld x6 (Rect.unit ![0, 0] S2304x384.size inb_S2304x384_S2304x384_0_0)) (View.ld x7 (Rect.unit ![0, 0] S1x384.size inb_S1x384_S1x384_0_0)) (View.ld x8 (Rect.unit ![0, 0] S1x384.size inb_S1x384_S1x384_0_0))

/-- The scale of the quantised hidden layer. -/
def hs : FVec F S4x1 .f32 := k0_pay101 lanes (hcmp S2 x6 x7 x8) k0_pay99

/-- The quantised hidden layer. -/
def hc : FVec F S4x384 .fp8e4m3 := k0_pay102 (hid S2 x6 x7 x8) lanes (hcmp S2 x6 x7 x8) k0_pay99

/-- The gate. -/
def gate : FVec F S4x2304 .f32 := k0_pay103 (hs S2 x6 x7 x8) (hc S2 x6 x7 x8) (View.ld x9 (Rect.unit ![0, 0] S384x2304.size inb_S384x2304_S384x2304_0_0)) (View.ld x10 (Rect.unit ![0, 0] S1x2304.size inb_S1x2304_S1x2304_0_0)) (View.ld x11 (Rect.unit ![0, 0] S1x2304.size inb_S1x2304_S1x2304_0_0))

/-- The output scale from the largest magnitudes and the gate. -/
def ysc (S : Vec F S9x4x256 .f32) (g : FVec F S4x2304 .f32) : F .f32 :=
  k0_pay111 g (shapeCast S4x256 (View.ld S (Rect.unit ![0, 0, 0] S1x4x256.size inb_S9x4x256_S1x4x256_0_0_0)) shapeCasts_S1x4x256_S4x256) (shapeCast S4x256 (View.ld S (Rect.unit ![1, 0, 0] S1x4x256.size inb_S9x4x256_S1x4x256_1_0_0)) shapeCasts_S1x4x256_S4x256) (shapeCast S4x256 (View.ld S (Rect.unit ![2, 0, 0] S1x4x256.size inb_S9x4x256_S1x4x256_2_0_0)) shapeCasts_S1x4x256_S4x256) (shapeCast S4x256 (View.ld S (Rect.unit ![3, 0, 0] S1x4x256.size inb_S9x4x256_S1x4x256_3_0_0)) shapeCasts_S1x4x256_S4x256) (shapeCast S4x256 (View.ld S (Rect.unit ![4, 0, 0] S1x4x256.size inb_S9x4x256_S1x4x256_4_0_0)) shapeCasts_S1x4x256_S4x256) (shapeCast S4x256 (View.ld S (Rect.unit ![5, 0, 0] S1x4x256.size inb_S9x4x256_S1x4x256_5_0_0)) shapeCasts_S1x4x256_S4x256) (shapeCast S4x256 (View.ld S (Rect.unit ![6, 0, 0] S1x4x256.size inb_S9x4x256_S1x4x256_6_0_0)) shapeCasts_S1x4x256_S4x256) (View.ld S (Rect.unit ![7, 0, 0] S1x4x256.size inb_S9x4x256_S1x4x256_7_0_0)) (View.ld S (Rect.unit ![8, 0, 0] S1x4x256.size inb_S9x4x256_S1x4x256_8_0_0))

/-- The part of the 8-bit result that belongs to image `b` and tile `j`. -/
def yTile (S1 : Vec F S9x4x7x8x256 .f32) (g : FVec F S4x2304 .f32) (y : F .f32) (b j : Nat)
    (h1 : ∀ a, (![j, b, 0, 0, 0] : Fin 5 → Nat) a + S1x1x7x8x256.size a ≤ S9x4x7x8x256.size a) (h2 : S4x2304.Slices ![b, 256 * j] S1x256) : IVec S1x7x8x256 8 :=
  shapeCast S1x7x8x256 (fptosi 8 (minimumf (broadcast S7x8x256 (Scalar.ofBits .f32 0x42FE0000#32)) (maximumf (broadcast S7x8x256 (Scalar.ofBits .f32 0xC2FE0000#32))
    (roundeven (divf (mulf (shapeCast S7x8x256 (View.ld S1 (Rect.unit ![j, b, 0, 0, 0] S1x1x7x8x256.size h1)) shapeCasts_S1x1x7x8x256_S7x8x256)
      (broadcastTo S7x8x256 (shapeCast S1x1x256 (extractStridedSlice S1x256 ![b, 256 * j] g h2) shapeCasts_S1x256_S1x1x256) broadcasts_S1x1x256_S7x8x256))
      (broadcast S7x8x256 y)))))) shapeCasts_S7x8x256_S1x7x8x256

/-- Tile `j` of image `b` lies inside the activation buffer. -/
theorem inb1 (j : Fin 9) (b : Fin 4) : ∀ a, (![j.val, b.val, 0, 0, 0] : Fin 5 → Nat) a + S1x1x7x8x256.size a ≤ S9x4x7x8x256.size a := by revert j b; decide
/-- Tile `j` of row `b` lies inside the gate. -/
theorem sl2 (j : Fin 9) (b : Fin 4) : S4x2304.Slices ![b.val, 256 * j.val] S1x256 := by
  refine ⟨rfl, ?_⟩; revert j b; decide
/-- Tile `j` of image `b` lies inside the result. -/
theorem inby (j : Fin 9) (b : Fin 4) : ∀ a, (![b.val, 0, 0, 256 * j.val] : Fin 4 → Nat) a + S1x7x8x256.size a ≤ S4x7x8x2304.size a := by revert j b; decide

/-- All 36 pieces of the 8-bit result, last first. -/
def yL (S1 : Vec F S9x4x7x8x256 .f32) (g : FVec F S4x2304 .f32) (y : F .f32) : List (View.Piece (Elt F) S4x7x8x2304 .i8) :=
  ([8, 7, 6, 5, 4, 3, 2, 1, 0] : List (Fin 9)).flatMap fun j => ([3, 2, 1, 0] : List (Fin 4)).map fun b =>
    ⟨Rect.unit ![b.val, 0, 0, 256 * j.val] S1x7x8x256.size (inby j b), yTile S1 g y b.val j.val (inb1 j b) (sl2 j b)⟩

end Cert.KernelIdeal.Body
end
-- ==== Proof.KI.RunA.lean ====
module

public import proofs.«01_k».proof.Proof.KI.Warm

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S4x7x8x1536 .i8) (harg1 : arg1.IsWhole)
  (arg2 : Memref sig .tc .smem S4 .f32) (harg2 : arg2.IsWhole)
  (arg3 : Memref sig .tc .vmem S3x3x1536x256 .i8) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S2304x384 .fp8e4m3) (harg7 : arg7.IsWhole)
  (arg8 : Memref sig .tc .vmem S1x384 .f32) (harg8 : arg8.IsWhole)
  (arg9 : Memref sig .tc .vmem S1x384 .f32) (harg9 : arg9.IsWhole)
  (arg10 : Memref sig .tc .vmem S384x2304 .fp8e4m3) (harg10 : arg10.IsWhole)
  (arg11 : Memref sig .tc .vmem S1x2304 .f32) (harg11 : arg11.IsWhole)
  (arg12 : Memref sig .tc .vmem S1x2304 .f32) (harg12 : arg12.IsWhole)
  (arg13 : Memref sig .tc .vmem S4x7x8x2304 .i8) (harg13 : arg13.IsWhole)
  (arg14 : Memref sig .tc .smem S1x1 .f32) (harg14 : arg14.IsWhole)
  (arg15 : Memref sig .tc .vmem S4x2304 .f32) (harg15 : arg15.IsWhole)
  (arg16 : Memref sig .tc .vmem S4x2304 .fp8e4m3) (harg16 : arg16.IsWhole)
  (arg17 : Memref sig .tc .vmem S4x1 .f32) (harg17 : arg17.IsWhole)
  (arg18 : Memref sig .tc .vmem S4x384 .fp8e4m3) (harg18 : arg18.IsWhole)
  (arg19 : Memref sig .tc .vmem S4x1 .f32) (harg19 : arg19.IsWhole)
  (arg20 : Memref sig .tc .vmem S3x224x1536 .bf16) (harg20 : arg20.IsWhole)
  (arg21 : Memref sig .tc .vmem S9x4x7x8x256 .f32) (harg21 : arg21.IsWhole)
  (arg22 : Memref sig .tc .vmem S9x4x256 .f32) (harg22 : arg22.IsWhole)
  (arg23 : Memref sig .tc .vmem S9x4x256 .f32) (harg23 : arg23.IsWhole)

set_option maxHeartbeats 4000000 in
/-- The body run at the first point (it fills the shifted copies of the input and its own tile): from the inputs at their contents and the scratch buffers at named contents, it ends with the
    inputs as they were and each buffer it stores into with its pieces written (last first); the pieces are the witness. -/
noncomputable def runA (hc0 : cond0_0 i) (hc1 : ¬cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) (xs1 : Vec F S9x4x7x8x256 .f32) (xs2 : Vec F S9x4x256 .f32) (xs3 : Vec F S9x4x256 .f32) :
    { L : List (View.Piece (Elt F) S3x224x1536 .bf16) × List (View.Piece (Elt F) S9x4x7x8x256 .f32) × List (View.Piece (Elt F) S9x4x256 .f32) × List (View.Piece (Elt F) S9x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (arg20.view.loc (c : Thread nD τ) ↦[arg20.view.set]{fullShare} arg20.view.writes (Elt F) (harg20.unread xs0) (L.1)) ∗ (arg21.view.loc (c : Thread nD τ) ↦[arg21.view.set]{fullShare} arg21.view.writes (Elt F) (harg21.unread xs1) (L.2.1)) ∗ (arg22.view.loc (c : Thread nD τ) ↦[arg22.view.set]{fullShare} arg22.view.writes (Elt F) (harg22.unread xs2) (L.2.2.1)) ∗ (arg23.view.loc (c : Thread nD τ) ↦[arg23.view.set]{fullShare} arg23.view.writes (Elt F) (harg23.unread xs3) (L.2.2.2))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨(?_, ?_, ?_, ?_), fun E K => ?run⟩
  case run =>
    dsimp only
    simp only [cc0__body_eq_skeleton]; unfold cc0__body_skel
    simp only [k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs0; obtain rfl := harg21.eq_unread hfs1; obtain rfl := harg22.eq_unread hfs2; obtain rfl := harg23.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]
    · iexact HS0
    isplitl [HS1]
    · iexact HS1
    isplitl [HS2]
    · iexact HS2
    iexact HS3

end Cert.KernelIdeal.Run

end
-- ==== Proof.KI.RunB.lean ====
module

public import proofs.«01_k».proof.Proof.KI.Warm

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S4x7x8x1536 .i8) (harg1 : arg1.IsWhole)
  (arg2 : Memref sig .tc .smem S4 .f32) (harg2 : arg2.IsWhole)
  (arg3 : Memref sig .tc .vmem S3x3x1536x256 .i8) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S2304x384 .fp8e4m3) (harg7 : arg7.IsWhole)
  (arg8 : Memref sig .tc .vmem S1x384 .f32) (harg8 : arg8.IsWhole)
  (arg9 : Memref sig .tc .vmem S1x384 .f32) (harg9 : arg9.IsWhole)
  (arg10 : Memref sig .tc .vmem S384x2304 .fp8e4m3) (harg10 : arg10.IsWhole)
  (arg11 : Memref sig .tc .vmem S1x2304 .f32) (harg11 : arg11.IsWhole)
  (arg12 : Memref sig .tc .vmem S1x2304 .f32) (harg12 : arg12.IsWhole)
  (arg13 : Memref sig .tc .vmem S4x7x8x2304 .i8) (harg13 : arg13.IsWhole)
  (arg14 : Memref sig .tc .smem S1x1 .f32) (harg14 : arg14.IsWhole)
  (arg15 : Memref sig .tc .vmem S4x2304 .f32) (harg15 : arg15.IsWhole)
  (arg16 : Memref sig .tc .vmem S4x2304 .fp8e4m3) (harg16 : arg16.IsWhole)
  (arg17 : Memref sig .tc .vmem S4x1 .f32) (harg17 : arg17.IsWhole)
  (arg18 : Memref sig .tc .vmem S4x384 .fp8e4m3) (harg18 : arg18.IsWhole)
  (arg19 : Memref sig .tc .vmem S4x1 .f32) (harg19 : arg19.IsWhole)
  (arg20 : Memref sig .tc .vmem S3x224x1536 .bf16) (harg20 : arg20.IsWhole)
  (arg21 : Memref sig .tc .vmem S9x4x7x8x256 .f32) (harg21 : arg21.IsWhole)
  (arg22 : Memref sig .tc .vmem S9x4x256 .f32) (harg22 : arg22.IsWhole)
  (arg23 : Memref sig .tc .vmem S9x4x256 .f32) (harg23 : arg23.IsWhole)

set_option maxHeartbeats 4000000 in
/-- The body run at a middle point (its own tile only): from the inputs at their contents and the scratch buffers at named contents, it ends with the
    inputs as they were and each buffer it stores into with its pieces written (last first); the pieces are the witness. -/
noncomputable def runB (hc0 : ¬cond0_0 i) (hc1 : ¬cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) (xs1 : Vec F S9x4x7x8x256 .f32) (xs2 : Vec F S9x4x256 .f32) (xs3 : Vec F S9x4x256 .f32) :
    { L : List (View.Piece (Elt F) S9x4x7x8x256 .f32) × List (View.Piece (Elt F) S9x4x256 .f32) × List (View.Piece (Elt F) S9x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg20 fullShare xs0 ∗ (arg21.view.loc (c : Thread nD τ) ↦[arg21.view.set]{fullShare} arg21.view.writes (Elt F) (harg21.unread xs1) (L.1)) ∗ (arg22.view.loc (c : Thread nD τ) ↦[arg22.view.set]{fullShare} arg22.view.writes (Elt F) (harg22.unread xs2) (L.2.1)) ∗ (arg23.view.loc (c : Thread nD τ) ↦[arg23.view.set]{fullShare} arg23.view.writes (Elt F) (harg23.unread xs3) (L.2.2))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨(?_, ?_, ?_), fun E K => ?run⟩
  case run =>
    dsimp only
    simp only [cc0__body_eq_skeleton]; unfold cc0__body_skel
    simp only [k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs0; obtain rfl := harg21.eq_unread hfs1; obtain rfl := harg22.eq_unread hfs2; obtain rfl := harg23.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [HS0]
    · iexists _; isplitr; · ipureintro; exact harg20.read_unread _
      iexact HS0
    isplitl [HS1]
    · iexact HS1
    isplitl [HS2]
    · iexact HS2
    iexact HS3

end Cert.KernelIdeal.Run

end
-- ==== Proof.KI.RunC.lean ====
module

public import proofs.«01_k».proof.Proof.KI.Warm

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg1 : Memref sig .tc .vmem S4x7x8x1536 .i8) (harg1 : arg1.IsWhole)
  (arg2 : Memref sig .tc .smem S4 .f32) (harg2 : arg2.IsWhole)
  (arg3 : Memref sig .tc .vmem S3x3x1536x256 .i8) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S2304x384 .fp8e4m3) (harg7 : arg7.IsWhole)
  (arg8 : Memref sig .tc .vmem S1x384 .f32) (harg8 : arg8.IsWhole)
  (arg9 : Memref sig .tc .vmem S1x384 .f32) (harg9 : arg9.IsWhole)
  (arg10 : Memref sig .tc .vmem S384x2304 .fp8e4m3) (harg10 : arg10.IsWhole)
  (arg11 : Memref sig .tc .vmem S1x2304 .f32) (harg11 : arg11.IsWhole)
  (arg12 : Memref sig .tc .vmem S1x2304 .f32) (harg12 : arg12.IsWhole)
  (arg13 : Memref sig .tc .vmem S4x7x8x2304 .i8) (harg13 : arg13.IsWhole)
  (arg14 : Memref sig .tc .smem S1x1 .f32) (harg14 : arg14.IsWhole)
  (arg15 : Memref sig .tc .vmem S4x2304 .f32) (harg15 : arg15.IsWhole)
  (arg16 : Memref sig .tc .vmem S4x2304 .fp8e4m3) (harg16 : arg16.IsWhole)
  (arg17 : Memref sig .tc .vmem S4x1 .f32) (harg17 : arg17.IsWhole)
  (arg18 : Memref sig .tc .vmem S4x384 .fp8e4m3) (harg18 : arg18.IsWhole)
  (arg19 : Memref sig .tc .vmem S4x1 .f32) (harg19 : arg19.IsWhole)
  (arg20 : Memref sig .tc .vmem S3x224x1536 .bf16) (harg20 : arg20.IsWhole)
  (arg21 : Memref sig .tc .vmem S9x4x7x8x256 .f32) (harg21 : arg21.IsWhole)
  (arg22 : Memref sig .tc .vmem S9x4x256 .f32) (harg22 : arg22.IsWhole)
  (arg23 : Memref sig .tc .vmem S9x4x256 .f32) (harg23 : arg23.IsWhole)

set_option maxHeartbeats 4000000 in
/-- The body run at the last point (its own tile, then the reduction over all tiles and every result): from the inputs at their contents and the scratch buffers at named contents, it ends with the
    inputs as they were and each buffer it stores into with its pieces written (last first); the pieces are the witness. -/
noncomputable def runC (hc0 : ¬cond0_0 i) (hc1 : cond0_1 i)
    (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) (xs1 : Vec F S9x4x7x8x256 .f32) (xs2 : Vec F S9x4x256 .f32) (xs3 : Vec F S9x4x256 .f32) :
    { L : List (View.Piece (Elt F) S9x4x7x8x256 .f32) × List (View.Piece (Elt F) S9x4x256 .f32) × List (View.Piece (Elt F) S9x4x256 .f32) × List (View.Piece (Elt F) S4x7x8x2304 .i8) × List (View.Piece (Elt F) S1x1 .f32) × List (View.Piece (Elt F) S4x2304 .f32) × List (View.Piece (Elt F) S4x2304 .fp8e4m3) × List (View.Piece (Elt F) S4x1 .f32) × List (View.Piece (Elt F) S4x384 .fp8e4m3) × List (View.Piece (Elt F) S4x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f (L.2.2.2.1)) ∗ (∃ f, arg14.view.loc (c : Thread nD τ) ↦[arg14.view.set]{fullShare} arg14.view.writes (Elt F) f (L.2.2.2.2.1)) ∗ (∃ f, arg15.view.loc (c : Thread nD τ) ↦[arg15.view.set]{fullShare} arg15.view.writes (Elt F) f (L.2.2.2.2.2.1)) ∗ (∃ f, arg16.view.loc (c : Thread nD τ) ↦[arg16.view.set]{fullShare} arg16.view.writes (Elt F) f (L.2.2.2.2.2.2.1)) ∗ (∃ f, arg17.view.loc (c : Thread nD τ) ↦[arg17.view.set]{fullShare} arg17.view.writes (Elt F) f (L.2.2.2.2.2.2.2.1)) ∗ (∃ f, arg18.view.loc (c : Thread nD τ) ↦[arg18.view.set]{fullShare} arg18.view.writes (Elt F) f (L.2.2.2.2.2.2.2.2.1)) ∗ (∃ f, arg19.view.loc (c : Thread nD τ) ↦[arg19.view.set]{fullShare} arg19.view.writes (Elt F) f (L.2.2.2.2.2.2.2.2.2)) ∗ owns (c : Thread nD τ) arg20 fullShare xs0 ∗ (arg21.view.loc (c : Thread nD τ) ↦[arg21.view.set]{fullShare} arg21.view.writes (Elt F) (harg21.unread xs1) (L.1)) ∗ (arg22.view.loc (c : Thread nD τ) ↦[arg22.view.set]{fullShare} arg22.view.writes (Elt F) (harg22.unread xs2) (L.2.1)) ∗ (arg23.view.loc (c : Thread nD τ) ↦[arg23.view.set]{fullShare} arg23.view.writes (Elt F) (harg23.unread xs3) (L.2.2.1))) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨(?_, ?_, ?_, ?_, ?_, ?_, ?_, ?_, ?_, ?_), fun E K => ?run⟩
  case run =>
    dsimp only
    simp only [cc0__body_eq_skeleton]; unfold cc0__body_skel
    simp only [k0_part41_eq_skeleton, k0_part42_eq_skeleton, k0_part43_eq_skeleton, k0_part44_eq_skeleton, k0_part45_eq_skeleton, k0_part46_eq_skeleton, k0_part47_eq_skeleton, k0_part40_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hfs0; obtain rfl := harg21.eq_unread hfs1; obtain rfl := harg22.eq_unread hfs2; obtain rfl := harg23.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [HS0]
    · iexists _; isplitr; · ipureintro; exact harg20.read_unread _
      iexact HS0
    isplitl [HS1]
    · iexact HS1
    isplitl [HS2]
    · iexact HS2
    iexact HS3

end Cert.KernelIdeal.Run

end
-- ==== Proof.KI.Wit.lean ====
module

public import proofs.«01_k».proof.Proof.KI.Body
public import proofs.«01_k».proof.Proof.KI.RunA
public import proofs.«01_k».proof.Proof.KI.RunB
public import proofs.«01_k».proof.Proof.KI.RunC

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F] [Named F]

variable (c : Dev nD) (i : grid0.Coords)
  (arg1 : Memref sig .tc .vmem S4x7x8x1536 .i8) (harg1 : arg1.IsWhole)
  (arg2 : Memref sig .tc .smem S4 .f32) (harg2 : arg2.IsWhole)
  (arg3 : Memref sig .tc .vmem S3x3x1536x256 .i8) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S2304x384 .fp8e4m3) (harg7 : arg7.IsWhole)
  (arg8 : Memref sig .tc .vmem S1x384 .f32) (harg8 : arg8.IsWhole)
  (arg9 : Memref sig .tc .vmem S1x384 .f32) (harg9 : arg9.IsWhole)
  (arg10 : Memref sig .tc .vmem S384x2304 .fp8e4m3) (harg10 : arg10.IsWhole)
  (arg11 : Memref sig .tc .vmem S1x2304 .f32) (harg11 : arg11.IsWhole)
  (arg12 : Memref sig .tc .vmem S1x2304 .f32) (harg12 : arg12.IsWhole)
  (arg13 : Memref sig .tc .vmem S4x7x8x2304 .i8) (harg13 : arg13.IsWhole)
  (arg14 : Memref sig .tc .smem S1x1 .f32) (harg14 : arg14.IsWhole)
  (arg15 : Memref sig .tc .vmem S4x2304 .f32) (harg15 : arg15.IsWhole)
  (arg16 : Memref sig .tc .vmem S4x2304 .fp8e4m3) (harg16 : arg16.IsWhole)
  (arg17 : Memref sig .tc .vmem S4x1 .f32) (harg17 : arg17.IsWhole)
  (arg18 : Memref sig .tc .vmem S4x384 .fp8e4m3) (harg18 : arg18.IsWhole)
  (arg19 : Memref sig .tc .vmem S4x1 .f32) (harg19 : arg19.IsWhole)
  (arg20 : Memref sig .tc .vmem S3x224x1536 .bf16) (harg20 : arg20.IsWhole)
  (arg21 : Memref sig .tc .vmem S9x4x7x8x256 .f32) (harg21 : arg21.IsWhole)
  (arg22 : Memref sig .tc .vmem S9x4x256 .f32) (harg22 : arg22.IsWhole)
  (arg23 : Memref sig .tc .vmem S9x4x256 .f32) (harg23 : arg23.IsWhole)

variable (x0 : Vec F S4x7x8x1536 .i8) (x1 : Vec F S4 .f32) (x2 : Vec F S3x3x1536x256 .i8) (x3 : Vec F S1x256 .f32) (x4 : Vec F S1x256 .f32) (x5 : Vec F S1x256 .f32) (x6 : Vec F S2304x384 .fp8e4m3) (x7 : Vec F S1x384 .f32) (x8 : Vec F S1x384 .f32) (x9 : Vec F S384x2304 .fp8e4m3) (x10 : Vec F S1x2304 .f32) (x11 : Vec F S1x2304 .f32) (xs0 : Vec F S3x224x1536 .bf16) (xs1 : Vec F S9x4x7x8x256 .f32) (xs2 : Vec F S9x4x256 .f32) (xs3 : Vec F S9x4x256 .f32)

set_option maxHeartbeats 4000000 in
/-- The first point's pieces, in closed form. -/
theorem HS0_42_eq : runA.sl.HS0_42 c arg1 harg1 x0 = Body.xkL x0 := by
  have h : runA.sl.HS0_42 c arg1 harg1 x0 = Body.xkL (arg1.view.read (Elt F) (harg1.unread x0)) := rfl
  rw [h]; simp only [Memref.IsWhole.read_unread]

/-- The pieces the first point writes into the buffer of shifted inputs. -/
theorem runA_0 (hc0 : cond0_0 i) (hc1 : ¬cond0_1 i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.1 = runA.sl.HS0_42 c arg1 harg1 x0 := rfl

/-- Reading back what the first point wrote into the buffer of shifted inputs gives its pieces. -/
theorem runA_xk : (arg20.view.read (Elt F) (arg20.view.writes (Elt F) arg20.view.junk (runA.sl.HS0_42 c arg1 harg1 x0))) = (View.canon (runA.sl.HS0_42 c arg1 harg1 x0)) := View.read_writes_junk_eq_canon _ _

/-- What the point writes into the scratch buffer of activations. -/
theorem runA_1 (hc0 : cond0_0 i) (hc1 : ¬cond0_1 i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.1 = Body.L1 i (View.canon (runA.sl.HS0_42 c arg1 harg1 x0)) x1 x2 x3 x4 x5 := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.1 = Body.L1 i (arg20.view.read (Elt F) (arg20.view.writes (Elt F) arg20.view.junk (runA.sl.HS0_42 c arg1 harg1 x0))) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread, runA_xk]

/-- What the point writes into the scratch buffer of means. -/
theorem runA_2 (hc0 : cond0_0 i) (hc1 : ¬cond0_1 i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.1 = Body.L2 i (View.canon (runA.sl.HS0_42 c arg1 harg1 x0)) x1 x2 x3 x4 x5 := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.1 = Body.L2 i (arg20.view.read (Elt F) (arg20.view.writes (Elt F) arg20.view.junk (runA.sl.HS0_42 c arg1 harg1 x0))) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread, runA_xk]

/-- What the point writes into the scratch buffer of largest magnitudes. -/
theorem runA_3 (hc0 : cond0_0 i) (hc1 : ¬cond0_1 i) : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2 = Body.L3 i (View.canon (runA.sl.HS0_42 c arg1 harg1 x0)) x1 x2 x3 x4 x5 := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2 = Body.L3 i (arg20.view.read (Elt F) (arg20.view.writes (Elt F) arg20.view.junk (runA.sl.HS0_42 c arg1 harg1 x0))) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread, runA_xk]

/-- What the point writes into the scratch buffer of activations. -/
theorem runB_1 (hc0 : ¬cond0_0 i) (hc1 : ¬cond0_1 i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.1 = Body.L1 i xs0 x1 x2 x3 x4 x5 := by
  have h : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.1 = Body.L1 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread]

/-- What the point writes into the scratch buffer of means. -/
theorem runB_2 (hc0 : ¬cond0_0 i) (hc1 : ¬cond0_1 i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.1 = Body.L2 i xs0 x1 x2 x3 x4 x5 := by
  have h : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.1 = Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread]

/-- What the point writes into the scratch buffer of largest magnitudes. -/
theorem runB_3 (hc0 : ¬cond0_0 i) (hc1 : ¬cond0_1 i) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2 = Body.L3 i xs0 x1 x2 x3 x4 x5 := by
  have h : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2 = Body.L3 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread]

/-- What the point writes into the scratch buffer of activations. -/
theorem runC_1 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.1 = Body.L1 i xs0 x1 x2 x3 x4 x5 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.1 = Body.L1 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread]

/-- What the point writes into the scratch buffer of means. -/
theorem runC_2 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.1 = Body.L2 i xs0 x1 x2 x3 x4 x5 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.1 = Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread]

/-- What the point writes into the scratch buffer of largest magnitudes. -/
theorem runC_3 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.1 = Body.L3 i xs0 x1 x2 x3 x4 x5 := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.1 = Body.L3 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) := rfl
  rw [h]; simp only [Memref.IsWhole.read_unread]

set_option maxHeartbeats 4000000 in
/-- What the last point writes into the 8-bit result. -/
theorem runC_4 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.1 = Body.yL (arg21.view.read (Elt F) (arg21.view.writes (Elt F) (harg21.unread xs1) (Body.L1 i xs0 x1 x2 x3 x4 x5))) (Body.gate (arg22.view.read (Elt F) (arg22.view.writes (Elt F) (harg22.unread xs2) (Body.L2 i xs0 x1 x2 x3 x4 x5))) x6 x7 x8 x9 x10 x11) (Body.ysc (arg23.view.read (Elt F) (arg23.view.writes (Elt F) (harg23.unread xs3) (Body.L3 i xs0 x1 x2 x3 x4 x5))) (Body.gate (arg22.view.read (Elt F) (arg22.view.writes (Elt F) (harg22.unread xs2) (Body.L2 i xs0 x1 x2 x3 x4 x5))) x6 x7 x8 x9 x10 x11)) := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.1 = Body.yL (arg21.view.read (Elt F) (arg21.view.writes (Elt F) (harg21.unread xs1) (Body.L1 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (Body.gate (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11))) (Body.ysc (arg23.view.read (Elt F) (arg23.view.writes (Elt F) (harg23.unread xs3) (Body.L3 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (Body.gate (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)))) := rfl
  rw [h]; simp only [Memref.IsWhole.read_unread]

set_option maxHeartbeats 4000000 in
/-- What the last point writes into the output scale. -/
theorem runC_5 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.1 = [⟨Rect.unit ![0, 0] S1x1.size (by decide), fun _ => (Body.ysc (arg23.view.read (Elt F) (arg23.view.writes (Elt F) (harg23.unread xs3) (Body.L3 i xs0 x1 x2 x3 x4 x5))) (Body.gate (arg22.view.read (Elt F) (arg22.view.writes (Elt F) (harg22.unread xs2) (Body.L2 i xs0 x1 x2 x3 x4 x5))) x6 x7 x8 x9 x10 x11))⟩] := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.1 = [⟨Rect.unit ![0, 0] S1x1.size (by decide), fun _ => (Body.ysc (arg23.view.read (Elt F) (arg23.view.writes (Elt F) (harg23.unread xs3) (Body.L3 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (Body.gate (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11))))⟩] := rfl
  rw [h]; simp only [Memref.IsWhole.read_unread]

set_option maxHeartbeats 4000000 in
/-- What the last point writes into the gate. -/
theorem runC_6 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.1 = [⟨Rect.unit ![0, 0] S4x2304.size (by decide), (Body.gate (arg22.view.read (Elt F) (arg22.view.writes (Elt F) (harg22.unread xs2) (Body.L2 i xs0 x1 x2 x3 x4 x5))) x6 x7 x8 x9 x10 x11)⟩] := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.1 = [⟨Rect.unit ![0, 0] S4x2304.size (by decide), (Body.gate (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (arg7.view.read (Elt F) (harg7.unread x6)) (arg8.view.read (Elt F) (harg8.unread x7)) (arg9.view.read (Elt F) (harg9.unread x8)) (arg10.view.read (Elt F) (harg10.unread x9)) (arg11.view.read (Elt F) (harg11.unread x10)) (arg12.view.read (Elt F) (harg12.unread x11)))⟩] := rfl
  rw [h]; simp only [Memref.IsWhole.read_unread]

set_option maxHeartbeats 4000000 in
/-- What the last point writes into the quantised means. -/
theorem runC_7 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.1 = [⟨Rect.unit ![0, 0] S4x2304.size (by decide), Body.pc (arg22.view.read (Elt F) (arg22.view.writes (Elt F) (harg22.unread xs2) (Body.L2 i xs0 x1 x2 x3 x4 x5)))⟩] := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.1 = [⟨Rect.unit ![0, 0] S4x2304.size (by decide), Body.pc (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)))))⟩] := rfl
  rw [h]; simp only [Memref.IsWhole.read_unread]

set_option maxHeartbeats 4000000 in
/-- What the last point writes into the means' scale. -/
theorem runC_8 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.2.1 = [⟨Rect.unit ![0, 0] S4x1.size (by decide), Body.ps (arg22.view.read (Elt F) (arg22.view.writes (Elt F) (harg22.unread xs2) (Body.L2 i xs0 x1 x2 x3 x4 x5)))⟩] := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.2.1 = [⟨Rect.unit ![0, 0] S4x1.size (by decide), Body.ps (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)))))⟩] := rfl
  rw [h]; simp only [Memref.IsWhole.read_unread]

set_option maxHeartbeats 4000000 in
/-- What the last point writes into the quantised hidden layer. -/
theorem runC_9 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.2.2.1 = [⟨Rect.unit ![0, 0] S4x384.size (by decide), Body.hc (arg22.view.read (Elt F) (arg22.view.writes (Elt F) (harg22.unread xs2) (Body.L2 i xs0 x1 x2 x3 x4 x5))) x6 x7 x8⟩] := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.2.2.1 = [⟨Rect.unit ![0, 0] S4x384.size (by decide), Body.hc (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (arg7.view.read (Elt F) (harg7.unread x6)) (arg8.view.read (Elt F) (harg8.unread x7)) (arg9.view.read (Elt F) (harg9.unread x8))⟩] := rfl
  rw [h]; simp only [Memref.IsWhole.read_unread]

set_option maxHeartbeats 4000000 in
/-- What the last point writes into the hidden layer's scale. -/
theorem runC_10 (hc0 : ¬cond0_0 i) (hc1 : cond0_1 i) : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.2.2.2 = [⟨Rect.unit ![0, 0] S4x1.size (by decide), Body.hs (arg22.view.read (Elt F) (arg22.view.writes (Elt F) (harg22.unread xs2) (Body.L2 i xs0 x1 x2 x3 x4 x5))) x6 x7 x8⟩] := by
  have h : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xs0 xs1 xs2 xs3).1.2.2.2.2.2.2.2.2.2 = [⟨Rect.unit ![0, 0] S4x1.size (by decide), Body.hs (arg22.view.read (Elt F) (arg22.view.writes (Elt F) (harg22.unread xs2) (Body.L2 i (arg20.view.read (Elt F) (harg20.unread xs0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5))))) (arg7.view.read (Elt F) (harg7.unread x6)) (arg8.view.read (Elt F) (harg8.unread x7)) (arg9.view.read (Elt F) (harg9.unread x8))⟩] := rfl
  rw [h]; simp only [Memref.IsWhole.read_unread]

end Cert.KernelIdeal.Run
end
-- ==== Proof.KI.Tiles.lean ====
module

public import proofs.«01_k».proof.Proof.KI.Wit
public import Idealize.ShloMosaic.Lib.Pointwise
public import Idealize.ShloMosaic.Lib.ValueIdx

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-- The grid point that works on channel tile `j`. -/
def pt (j : Fin 9) : Fin cfg0.N := ⟨j.val, lt_of_lt_of_eq j.isLt N_0.symm⟩

/-- The scale of image `b` lies inside the four scales. -/
theorem hs4 (b : Fin 4) : ∀ a, (![b.val] : Fin 1 → Nat) a + S1.size a ≤ S4.size a := by revert b; decide
/-- The rows of image `b` lie inside the accumulator. -/
theorem sl4 (b : Fin 4) : S7x4x8x256.Slices ![0, b.val, 0, 0] S7x1x8x256 := by
  refine ⟨rfl, ?_⟩; revert b; decide

/-- One stored activation tile agrees with `G` where `G` is that tile. -/
theorem piece5 (n : Nat) (off : Fin 5 → Nat) (b : Fin 4) (hoff : off = ![n, b.val, 0, 0, 0]) (inb : ∀ a, off a + S1x1x7x8x256.size a ≤ S9x4x7x8x256.size a)
    (T : FVec F S7x8x256 .f32) (G : Vec F S9x4x7x8x256 .f32)
    (hG : ∀ y : S9x4x7x8x256.Idx, (y 0).val = n → y 1 = b → G y = T (ix3 (y 2) (y 3) (y 4)))
    (x : (Rect.unit (s := S9x4x7x8x256) off S1x1x7x8x256.size inb).shape.Idx) :
    shapeCast S1x1x7x8x256 T shapeCasts_S7x8x256_S1x1x7x8x256 x = G ((Rect.unit (s := S9x4x7x8x256) off S1x1x7x8x256.size inb).emb x) := by
  subst hoff
  have e : ∀ a, ((Rect.unit (s := S9x4x7x8x256) ![n, b.val, 0, 0, 0] S1x1x7x8x256.size inb).emb x a).val = (![n, b.val, 0, 0, 0] : Fin 5 → Nat) a + (x a).val := by
    intro a; simp
  have h0 : (x 0).val < 1 := (x 0).isLt
  have h1 : (x 1).val < 1 := (x 1).isLt
  rw [hG _ (by rw [e]; simp; omega) (Fin.ext (by rw [e]; simp; omega))]
  pointwise
  refine congrArg T ?_
  rw [show (x 2) = (Rect.unit (s := S9x4x7x8x256) ![n, b.val, 0, 0, 0] S1x1x7x8x256.size inb).emb x 2 from Fin.ext (by rw [e]; simp),
    show (x 3) = (Rect.unit (s := S9x4x7x8x256) ![n, b.val, 0, 0, 0] S1x1x7x8x256.size inb).emb x 3 from Fin.ext (by rw [e]; simp),
    show (x 4) = (Rect.unit (s := S9x4x7x8x256) ![n, b.val, 0, 0, 0] S1x1x7x8x256.size inb).emb x 4 from Fin.ext (by rw [e]; simp)]

/-- One stored row agrees with `G` where `G` is that row. -/
theorem piece3 (n : Nat) (off : Fin 3 → Nat) (b : Fin 4) (hoff : off = ![n, b.val, 0]) (inb : ∀ a, off a + S1x1x256.size a ≤ S9x4x256.size a)
    (T : FVec F S1x1x256 .f32) (G : Vec F S9x4x256 .f32)
    (hG : ∀ y : S9x4x256.Idx, (y 0).val = n → y 1 = b → G y = T (ix3 0 0 (y 2)))
    (x : (Rect.unit (s := S9x4x256) off S1x1x256.size inb).shape.Idx) :
    T x = G ((Rect.unit (s := S9x4x256) off S1x1x256.size inb).emb x) := by
  subst hoff
  have e : ∀ a, ((Rect.unit (s := S9x4x256) ![n, b.val, 0] S1x1x256.size inb).emb x a).val = (![n, b.val, 0] : Fin 3 → Nat) a + (x a).val := by
    intro a; simp
  have h0 : (x 0).val < 1 := (x 0).isLt
  have h1 : (x 1).val < 1 := (x 1).isLt
  rw [hG _ (by rw [e]; simp; omega) (Fin.ext (by rw [e]; simp; omega))]
  refine congrArg T ?_
  funext a
  match a with
  | ⟨0, _⟩ => exact Fin.ext (by simp; omega)
  | ⟨1, _⟩ => exact Fin.ext (by simp; omega)
  | ⟨2, _⟩ => exact Fin.ext (by simp)

/-- After a grid point the activation buffer agrees with `G` on its own tile too, if it did on the tiles before. -/
theorem step1 (M : Memref sig .tc .vmem S9x4x7x8x256 .f32) (f : M.view.ty.Contents (Elt F)) (i : grid0.Coords) (xk : Vec F S3x224x1536 .bf16) (x1 : Vec F S4 .f32) (x2 : Vec F S3x3x1536x256 .i8) (x3 x4 x5 : Vec F S1x256 .f32)
    (G : Vec F S9x4x7x8x256 .f32) (hS : ∀ y : S9x4x7x8x256.Idx, (y 0).val < (i 0).val → M.view.read (Elt F) f y = G y)
    (hG : ∀ y : S9x4x7x8x256.Idx, (y 0).val = (i 0).val → G y = act xk x1 x2 x3 x4 x5 (y 1).val (hs4 (y 1)) (sl4 (y 1)) (ix3 (y 2) (y 3) (y 4))) (y : S9x4x7x8x256.Idx) (hy : (y 0).val < (i 0).val + 1) :
    M.view.read (Elt F) (M.view.writes (Elt F) f (L1 i xk x1 x2 x3 x4 x5)) y = G y := by
  rcases Nat.lt_succ_iff_lt_or_eq.mp hy with h | h
  · have hm : ∀ (off : Fin 5 → Nat) (inb) (b : Nat) (hoff : off = ![(i 0).val, b, 0, 0, 0]), y ∉ (Rect.unit (s := S9x4x7x8x256) off S1x1x7x8x256.size inb).set := by
      intro off inb b hoff hh; subst hoff
      rw [Rect.mem_set_unit] at hh
      have := (hh 0).1; simp at this; omega
    rw [View.read_writes_apply_of_forall_not_mem M.view f y _ (by
      unfold L1
      simp only [List.forall_mem_cons, List.not_mem_nil, false_imp_iff, implies_true, and_true]
      exact ⟨hm _ (k0_off7_inb i) 3 (k0_off7_eq i), hm _ (k0_off5_inb i) 2 (k0_off5_eq i), hm _ (k0_off3_inb i) 1 (k0_off3_eq i), hm _ (k0_off1_inb i) 0 (k0_off1_eq i)⟩), hS y h]
  · refine View.read_writes_apply_of_pieces M.view f G _ ?_ y ?_
    · unfold L1
      simp only [List.forall_mem_cons, List.not_mem_nil, false_imp_iff, implies_true, and_true]
      exact ⟨piece5 (i 0).val _ 3 (k0_off7_eq i) _ _ G fun y h0 h1 => by rw [hG y h0, h1]; rfl, piece5 (i 0).val _ 2 (k0_off5_eq i) _ _ G fun y h0 h1 => by rw [hG y h0, h1]; rfl, piece5 (i 0).val _ 1 (k0_off3_eq i) _ _ G fun y h0 h1 => by rw [hG y h0, h1]; rfl, piece5 (i 0).val _ 0 (k0_off1_eq i) _ _ G fun y h0 h1 => by rw [hG y h0, h1]; rfl⟩
    · unfold L1
      have hb : (y 1).val < 4 := (y 1).isLt
      have hm : ∀ (off : Fin 5 → Nat) (inb) (b : Nat) (hoff : off = ![(i 0).val, b, 0, 0, 0]) (h1 : (y 1).val = b), y ∈ (Rect.unit (s := S9x4x7x8x256) off S1x1x7x8x256.size inb).set := by
        intro off inb b hoff h1; subst hoff
        rw [Rect.mem_set_unit]
        intro a
        fin_cases a <;> simp <;> first | omega | exact (y _).isLt
      obtain h1 | h1 | h1 | h1 : (y 1).val = 3 ∨ (y 1).val = 2 ∨ (y 1).val = 1 ∨ (y 1).val = 0 := by omega
      · exact ⟨_, .head _, hm _ (k0_off7_inb i) 3 (k0_off7_eq i) h1⟩
      · exact ⟨_, .tail _ (.head _), hm _ (k0_off5_inb i) 2 (k0_off5_eq i) h1⟩
      · exact ⟨_, .tail _ (.tail _ (.head _)), hm _ (k0_off3_inb i) 1 (k0_off3_eq i) h1⟩
      · exact ⟨_, .tail _ (.tail _ (.tail _ (.head _))), hm _ (k0_off1_inb i) 0 (k0_off1_eq i) h1⟩

/-- The same of the buffer of means. -/
theorem step2 (M : Memref sig .tc .vmem S9x4x256 .f32) (f : M.view.ty.Contents (Elt F)) (i : grid0.Coords) (xk : Vec F S3x224x1536 .bf16) (x1 : Vec F S4 .f32) (x2 : Vec F S3x3x1536x256 .i8) (x3 x4 x5 : Vec F S1x256 .f32)
    (G : Vec F S9x4x256 .f32) (hS : ∀ y : S9x4x256.Idx, (y 0).val < (i 0).val → M.view.read (Elt F) f y = G y)
    (hG : ∀ y : S9x4x256.Idx, (y 0).val = (i 0).val → G y = poolT (act xk x1 x2 x3 x4 x5 (y 1).val (hs4 (y 1)) (sl4 (y 1))) (ix3 0 0 (y 2))) (y : S9x4x256.Idx) (hy : (y 0).val < (i 0).val + 1) :
    M.view.read (Elt F) (M.view.writes (Elt F) f (L2 i xk x1 x2 x3 x4 x5)) y = G y := by
  rcases Nat.lt_succ_iff_lt_or_eq.mp hy with h | h
  · have hm : ∀ (off : Fin 3 → Nat) (inb) (b : Nat) (hoff : off = ![(i 0).val, b, 0]), y ∉ (Rect.unit (s := S9x4x256) off S1x1x256.size inb).set := by
      intro off inb b hoff hh; subst hoff
      rw [Rect.mem_set_unit] at hh
      have := (hh 0).1; simp at this; omega
    rw [View.read_writes_apply_of_forall_not_mem M.view f y _ (by
      unfold L2
      simp only [List.forall_mem_cons, List.not_mem_nil, false_imp_iff, implies_true, and_true]
      exact ⟨hm _ (k0_off8_inb i) 3 (k0_off8_eq i), hm _ (k0_off6_inb i) 2 (k0_off6_eq i), hm _ (k0_off4_inb i) 1 (k0_off4_eq i), hm _ (k0_off2_inb i) 0 (k0_off2_eq i)⟩), hS y h]
  · refine View.read_writes_apply_of_pieces M.view f G _ ?_ y ?_
    · unfold L2
      simp only [List.forall_mem_cons, List.not_mem_nil, false_imp_iff, implies_true, and_true]
      exact ⟨piece3 (i 0).val _ 3 (k0_off8_eq i) _ _ G fun y h0 h1 => by rw [hG y h0, h1]; rfl, piece3 (i 0).val _ 2 (k0_off6_eq i) _ _ G fun y h0 h1 => by rw [hG y h0, h1]; rfl, piece3 (i 0).val _ 1 (k0_off4_eq i) _ _ G fun y h0 h1 => by rw [hG y h0, h1]; rfl, piece3 (i 0).val _ 0 (k0_off2_eq i) _ _ G fun y h0 h1 => by rw [hG y h0, h1]; rfl⟩
    · unfold L2
      have hb : (y 1).val < 4 := (y 1).isLt
      have hm : ∀ (off : Fin 3 → Nat) (inb) (b : Nat) (hoff : off = ![(i 0).val, b, 0]) (h1 : (y 1).val = b), y ∈ (Rect.unit (s := S9x4x256) off S1x1x256.size inb).set := by
        intro off inb b hoff h1; subst hoff
        rw [Rect.mem_set_unit]
        intro a
        fin_cases a <;> simp <;> first | omega | exact (y _).isLt
      obtain h1 | h1 | h1 | h1 : (y 1).val = 3 ∨ (y 1).val = 2 ∨ (y 1).val = 1 ∨ (y 1).val = 0 := by omega
      · exact ⟨_, .head _, hm _ (k0_off8_inb i) 3 (k0_off8_eq i) h1⟩
      · exact ⟨_, .tail _ (.head _), hm _ (k0_off6_inb i) 2 (k0_off6_eq i) h1⟩
      · exact ⟨_, .tail _ (.tail _ (.head _)), hm _ (k0_off4_inb i) 1 (k0_off4_eq i) h1⟩
      · exact ⟨_, .tail _ (.tail _ (.tail _ (.head _))), hm _ (k0_off2_inb i) 0 (k0_off2_eq i) h1⟩

/-- The same of the buffer of largest magnitudes. -/
theorem step3 (M : Memref sig .tc .vmem S9x4x256 .f32) (f : M.view.ty.Contents (Elt F)) (i : grid0.Coords) (xk : Vec F S3x224x1536 .bf16) (x1 : Vec F S4 .f32) (x2 : Vec F S3x3x1536x256 .i8) (x3 x4 x5 : Vec F S1x256 .f32)
    (G : Vec F S9x4x256 .f32) (hS : ∀ y : S9x4x256.Idx, (y 0).val < (i 0).val → M.view.read (Elt F) f y = G y)
    (hG : ∀ y : S9x4x256.Idx, (y 0).val = (i 0).val → G y = maxT (act xk x1 x2 x3 x4 x5 (y 1).val (hs4 (y 1)) (sl4 (y 1))) (ix3 0 0 (y 2))) (y : S9x4x256.Idx) (hy : (y 0).val < (i 0).val + 1) :
    M.view.read (Elt F) (M.view.writes (Elt F) f (L3 i xk x1 x2 x3 x4 x5)) y = G y := by
  rcases Nat.lt_succ_iff_lt_or_eq.mp hy with h | h
  · have hm : ∀ (off : Fin 3 → Nat) (inb) (b : Nat) (hoff : off = ![(i 0).val, b, 0]), y ∉ (Rect.unit (s := S9x4x256) off S1x1x256.size inb).set := by
      intro off inb b hoff hh; subst hoff
      rw [Rect.mem_set_unit] at hh
      have := (hh 0).1; simp at this; omega
    rw [View.read_writes_apply_of_forall_not_mem M.view f y _ (by
      unfold L3
      simp only [List.forall_mem_cons, List.not_mem_nil, false_imp_iff, implies_true, and_true]
      exact ⟨hm _ (k0_off8_inb i) 3 (k0_off8_eq i), hm _ (k0_off6_inb i) 2 (k0_off6_eq i), hm _ (k0_off4_inb i) 1 (k0_off4_eq i), hm _ (k0_off2_inb i) 0 (k0_off2_eq i)⟩), hS y h]
  · refine View.read_writes_apply_of_pieces M.view f G _ ?_ y ?_
    · unfold L3
      simp only [List.forall_mem_cons, List.not_mem_nil, false_imp_iff, implies_true, and_true]
      exact ⟨piece3 (i 0).val _ 3 (k0_off8_eq i) _ _ G fun y h0 h1 => by rw [hG y h0, h1]; rfl, piece3 (i 0).val _ 2 (k0_off6_eq i) _ _ G fun y h0 h1 => by rw [hG y h0, h1]; rfl, piece3 (i 0).val _ 1 (k0_off4_eq i) _ _ G fun y h0 h1 => by rw [hG y h0, h1]; rfl, piece3 (i 0).val _ 0 (k0_off2_eq i) _ _ G fun y h0 h1 => by rw [hG y h0, h1]; rfl⟩
    · unfold L3
      have hb : (y 1).val < 4 := (y 1).isLt
      have hm : ∀ (off : Fin 3 → Nat) (inb) (b : Nat) (hoff : off = ![(i 0).val, b, 0]) (h1 : (y 1).val = b), y ∈ (Rect.unit (s := S9x4x256) off S1x1x256.size inb).set := by
        intro off inb b hoff h1; subst hoff
        rw [Rect.mem_set_unit]
        intro a
        fin_cases a <;> simp <;> first | omega | exact (y _).isLt
      obtain h1 | h1 | h1 | h1 : (y 1).val = 3 ∨ (y 1).val = 2 ∨ (y 1).val = 1 ∨ (y 1).val = 0 := by omega
      · exact ⟨_, .head _, hm _ (k0_off8_inb i) 3 (k0_off8_eq i) h1⟩
      · exact ⟨_, .tail _ (.head _), hm _ (k0_off6_inb i) 2 (k0_off6_eq i) h1⟩
      · exact ⟨_, .tail _ (.tail _ (.head _)), hm _ (k0_off4_inb i) 1 (k0_off4_eq i) h1⟩
      · exact ⟨_, .tail _ (.tail _ (.tail _ (.head _))), hm _ (k0_off2_inb i) 0 (k0_off2_eq i) h1⟩

section Arrays

variable (m : (ℓ : Loc nD τ sig) → Buf (Elt F) ℓ) (c : Dev nD)

/-- The buffer of shifted inputs, from the first point on. -/
def XK : Vec F S3x224x1536 .bf16 := View.canon (xkL (iblk m c 0 (pt 0)))

/-- The activation of image `b` over channel tile `j`. -/
def tile (j : Fin 9) (b : Fin 4) : FVec F S7x8x256 .f32 :=
  act (XK m c) (iblk m c 1 (pt j)) (iblk m c 2 (pt j)) (iblk m c 3 (pt j)) (iblk m c 4 (pt j)) (iblk m c 5 (pt j)) b.val (hs4 b) (sl4 b)

/-- All activations. -/
def ACT : Vec F S9x4x7x8x256 .f32 := fun y => tile m c (y 0) (y 1) (ix3 (y 2) (y 3) (y 4))
/-- All means. -/
def POOL : Vec F S9x4x256 .f32 := fun y => poolT (tile m c (y 0) (y 1)) (ix3 0 0 (y 2))
/-- All largest magnitudes. -/
def MX : Vec F S9x4x256 .f32 := fun y => maxT (tile m c (y 0) (y 1)) (ix3 0 0 (y 2))

end Arrays

end Cert.KernelIdeal.Body

end
-- ==== Proof.KI.Outs.lean ====
module

public import proofs.«01_k».proof.Proof.KI.Tiles

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] [Named F]

/-- The part of the 8-bit result that belongs to image `b` and tile `j`, with both as numbers of their ranges. -/
def yT (S1 : Vec F S9x4x7x8x256 .f32) (g : FVec F S4x2304 .f32) (y : F .f32) (b : Fin 4) (j : Fin 9) : IVec S1x7x8x256 8 :=
  yTile S1 g y b.val j.val (inb1 j b) (sl2 j b)

/-- The whole 8-bit result: each element read off the tile it lies in. -/
def yAll (S1 : Vec F S9x4x7x8x256 .f32) (g : FVec F S4x2304 .f32) (y : F .f32) : Vec F S4x7x8x2304 .i8 :=
  fun z => yT S1 g y (z 0) ⟨(z 3).val / 256, Nat.div_lt_of_lt_mul (z 3).isLt⟩ (ix4 0 (z 1) (z 2) ⟨(z 3).val % 256, Nat.mod_lt _ (by decide)⟩)

/-- An element of the whole result is the element of its tile. -/
theorem yAll_at (S1 : Vec F S9x4x7x8x256 .f32) (g : FVec F S4x2304 .f32) (y : F .f32) (z : S4x7x8x2304.Idx) (b : Fin 4) (j : Fin 9) (x : S1x7x8x256.Idx)
    (h0 : (z 0).val = b.val) (h1 : (z 1).val = (x 1).val) (h2 : (z 2).val = (x 2).val) (h3 : (z 3).val = 256 * j.val + (x 3).val) :
    yT S1 g y b j x = yAll S1 g y z := by
  have hx0 : (x 0).val < 1 := (x 0).isLt
  have hx3 : (x 3).val < 256 := (x 3).isLt
  unfold yAll
  rw [show (z 0) = b from Fin.ext h0, show (⟨(z 3).val / 256, Nat.div_lt_of_lt_mul (z 3).isLt⟩ : Fin 9) = j from Fin.ext (by show (z 3).val / 256 = j.val; omega)]
  refine congrArg (yT S1 g y b j) ?_
  funext a
  match a with
  | ⟨0, _⟩ => exact Fin.ext (by show (x 0).val = 0; omega)
  | ⟨1, _⟩ => exact Fin.ext h1.symm
  | ⟨2, _⟩ => exact Fin.ext h2.symm
  | ⟨3, _⟩ => exact Fin.ext (by show (x 3).val = (z 3).val % 256; omega)

/-- Reading back the 36 stored tiles gives the whole result. -/
theorem yL_read (M : Memref sig .tc .vmem S4x7x8x2304 .i8) (f : M.view.ty.Contents (Elt F)) (S1 : Vec F S9x4x7x8x256 .f32) (g : FVec F S4x2304 .f32) (y : F .f32) :
    M.view.read (Elt F) (M.view.writes (Elt F) f (yL S1 g y)) = yAll S1 g y := by
  funext z
  refine View.read_writes_apply_of_pieces M.view f (yAll S1 g y) (yL S1 g y) ?_ z ?_
  · intro p hp x
    unfold yL at hp
    obtain ⟨j, -, hp⟩ := List.mem_flatMap.mp hp
    obtain ⟨b, -, rfl⟩ := List.mem_map.mp hp
    have hx0 : (x 0).val < 1 := (x 0).isLt
    refine yAll_at S1 g y _ b j x ?_ ?_ ?_ ?_ <;> simp <;> omega
  · unfold yL
    have hj : ∀ j : Fin 9, j ∈ ([8, 7, 6, 5, 4, 3, 2, 1, 0] : List (Fin 9)) := by decide
    have hb : ∀ b : Fin 4, b ∈ ([3, 2, 1, 0] : List (Fin 4)) := by decide
    refine ⟨_, List.mem_flatMap.mpr ⟨⟨(z 3).val / 256, Nat.div_lt_of_lt_mul (z 3).isLt⟩, hj _, List.mem_map.mpr ⟨z 0, hb _, rfl⟩⟩, ?_⟩
    rw [Rect.mem_set_unit]
    have h3 : (z 3).val < 2304 := (z 3).isLt
    intro a
    match a with
    | ⟨0, _⟩ => exact ⟨Nat.le_refl _, Nat.lt_succ_self _⟩
    | ⟨1, _⟩ => exact ⟨Nat.zero_le _, lt_of_lt_of_eq (z 1).isLt (Nat.zero_add _).symm⟩
    | ⟨2, _⟩ => exact ⟨Nat.zero_le _, lt_of_lt_of_eq (z 2).isLt (Nat.zero_add _).symm⟩
    | ⟨3, _⟩ => exact ⟨by show 256 * ((z 3).val / 256) ≤ (z 3).val; omega, by show (z 3).val < 256 * ((z 3).val / 256) + 256; omega⟩

/-- Reading back one store of a whole array gives what was stored. -/
theorem one_read {S : Shape} {e : EltTy} {sp : Space} (M : Memref sig .tc sp S e) (f : M.view.ty.Contents (Elt F)) {off : Fin S.rank → Nat} (h : off = fun _ => 0)
    (inb : ∀ a, off a + S.size a ≤ S.size a) (w : S.Idx → Elt F e) :
    M.view.read (Elt F) (M.view.writes (Elt F) f [(⟨Rect.unit off S.size inb, w⟩ : View.Piece (Elt F) S e)]) = w := by
  subst h
  funext y
  refine View.read_writes_apply_of_pieces M.view f w _ ?_ y ?_
  · intro p hp x
    obtain rfl := List.mem_singleton.mp hp
    refine congrArg w (funext fun a => Fin.ext ?_)
    simp
  · refine ⟨_, List.mem_singleton.mpr rfl, ?_⟩
    rw [Rect.mem_set_unit]
    exact fun a => ⟨Nat.zero_le _, lt_of_lt_of_eq (y a).isLt (Nat.zero_add _).symm⟩

/-- The first point's stores cover the buffer of shifted inputs. -/
theorem xk_cover (x : Vec F S4x7x8x1536 .i8) (y : S3x224x1536.Idx) : ∃ p ∈ xkL x, y ∈ p.1.set := by
  have h1 : (y 1).val < 224 := (y 1).isLt
  have hg : ∀ g : Fin 14, g ∈ ([13, 12, 11, 10, 9, 8, 7, 6, 5, 4, 3, 2, 1, 0] : List (Fin 14)) := by decide
  have hm : ∀ k : Fin 3, (y 0).val = k.val → y ∈ (Rect.unit (s := S3x224x1536) ![k.val, 16 * ((y 1).val / 16), 0] S1x16x1536.size (inbk k ⟨(y 1).val / 16, by omega⟩)).set := by
    intro k h
    rw [Rect.mem_set_unit]
    intro a
    match a with
    | ⟨0, _⟩ => exact ⟨le_of_eq h.symm, by show (y 0).val < k.val + 1; omega⟩
    | ⟨1, _⟩ => exact ⟨by show 16 * ((y 1).val / 16) ≤ (y 1).val; omega, by show (y 1).val < 16 * ((y 1).val / 16) + 16; omega⟩
    | ⟨2, _⟩ => exact ⟨Nat.zero_le _, lt_of_lt_of_eq (y 2).isLt (Nat.zero_add _).symm⟩
  have h0 : (y 0).val < 3 := (y 0).isLt
  unfold xkL
  simp only [List.mem_flatMap]
  obtain h | h | h : (y 0).val = 2 ∨ (y 0).val = 1 ∨ (y 0).val = 0 := by omega
  · exact ⟨_, ⟨⟨(y 1).val / 16, by omega⟩, hg _, .head _⟩, hm 2 h⟩
  · exact ⟨_, ⟨⟨(y 1).val / 16, by omega⟩, hg _, .tail _ (.head _)⟩, hm 1 h⟩
  · exact ⟨_, ⟨⟨(y 1).val / 16, by omega⟩, hg _, .tail _ (.tail _ (.head _))⟩, hm 0 h⟩

/-- Reading back the first point's stores. -/
theorem xk_read (M : Memref sig .tc .vmem S3x224x1536 .bf16) (f : M.view.ty.Contents (Elt F)) (x : Vec F S4x7x8x1536 .i8) :
    M.view.read (Elt F) (M.view.writes (Elt F) f (xkL x)) = View.canon (xkL x) :=
  View.read_writes_eq_canon M.view f _ (xk_cover x)

section Results

variable (m : (ℓ : Loc nD τ sig) → Buf (Elt F) ℓ) (c : Dev nD)

/-- The gate. -/
def rG : Vec F S4x2304 .f32 := gate (POOL m c) (iblk m c 6 (pt 8)) (iblk m c 7 (pt 8)) (iblk m c 8 (pt 8)) (iblk m c 9 (pt 8)) (iblk m c 10 (pt 8)) (iblk m c 11 (pt 8))
/-- The output scale. -/
def rYs : Vec F S1x1 .f32 := fun _ => ysc (MX m c) (rG m c)
/-- The 8-bit result. -/
def rY : Vec F S4x7x8x2304 .i8 := yAll (ACT m c) (rG m c) (ysc (MX m c) (rG m c))
/-- The quantised means. -/
def rPc : Vec F S4x2304 .fp8e4m3 := pc (POOL m c)
/-- The scale of the quantised means. -/
def rPs : Vec F S4x1 .f32 := ps (POOL m c)
/-- The quantised hidden layer. -/
def rHc : Vec F S4x384 .fp8e4m3 := hc (POOL m c) (iblk m c 6 (pt 8)) (iblk m c 7 (pt 8)) (iblk m c 8 (pt 8))
/-- The scale of the quantised hidden layer. -/
def rHs : Vec F S4x1 .f32 := hs (POOL m c) (iblk m c 6 (pt 8)) (iblk m c 7 (pt 8)) (iblk m c 8 (pt 8))

end Results

end Cert.KernelIdeal.Body

end
-- ==== Proof.KI.Track.lean ====
module

public import proofs.«01_k».proof.Proof.KI.Outs

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant before position `n`: before the first point every scratch buffer holds anything; after point `n` the buffer of shifted
    inputs is complete and the other three agree with the arrays of activations, means and largest magnitudes on the tiles done so far. -/
def PhiS (c : Dev nD) : ℕ → sProp 𝕄
  | 0 => Pipeline.ΦA spec0 c
  | n + 1 => iprop(iprop(owns (c : Thread nD τ) scM0_0 fullShare (Body.XK m c) ∗ (∃ S1, ⌜∀ y : S9x4x7x8x256.Idx, (y 0).val < n + 1 → S1 y = Body.ACT m c y⌝ ∗ owns (c : Thread nD τ) scM0_1 fullShare S1) ∗ (∃ S2, ⌜∀ y : S9x4x256.Idx, (y 0).val < n + 1 → S2 y = Body.POOL m c y⌝ ∗ owns (c : Thread nD τ) scM0_2 fullShare S2) ∗ (∃ S3, ⌜∀ y : S9x4x256.Idx, (y 0).val < n + 1 → S3 y = Body.MX m c y⌝ ∗ owns (c : Thread nD τ) scM0_3 fullShare S3)) ∗ (∃ r, prngReg c r))

/-- Before the first point. -/
theorem PhiS_zero (c : Dev nD) (n : ℕ) (hz : n = 0) : PhiS m c n = Pipeline.ΦA spec0 c := by
  subst hz; rfl

/-- After point `n`. -/
theorem PhiS_succ (c : Dev nD) (n : ℕ) : PhiS m c (n + 1) = iprop(iprop(owns (c : Thread nD τ) scM0_0 fullShare (Body.XK m c) ∗ (∃ S1, ⌜∀ y : S9x4x7x8x256.Idx, (y 0).val < n + 1 → S1 y = Body.ACT m c y⌝ ∗ owns (c : Thread nD τ) scM0_1 fullShare S1) ∗ (∃ S2, ⌜∀ y : S9x4x256.Idx, (y 0).val < n + 1 → S2 y = Body.POOL m c y⌝ ∗ owns (c : Thread nD τ) scM0_2 fullShare S2) ∗ (∃ S3, ⌜∀ y : S9x4x256.Idx, (y 0).val < n + 1 → S3 y = Body.MX m c y⌝ ∗ owns (c : Thread nD τ) scM0_3 fullShare S3)) ∗ (∃ r, prngReg c r)) := rfl

/-- The proof data of the pipeline: the arrays as the region finds them, each input's buffer left at its block, each output left at its
    result, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Body.rY m c
    | ⟨13, _⟩ => Body.rYs m c
    | ⟨14, _⟩ => Body.rG m c
    | ⟨15, _⟩ => Body.rPc m c
    | ⟨16, _⟩ => Body.rPs m c
    | ⟨17, _⟩ => Body.rHc m c
    | ⟨18, _⟩ => Body.rHs m c
    | ⟨_ + 19, h⟩ => absurd h (Nat.not_lt.2 (Nat.le_add_left _ _))
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem Phi_castSucc (c : Dev nD) (t : Fin cfg0.N) : (dats m 0 c).Φ t.castSucc = PhiS m c t.val := rfl

/-- The invariant at a point's end. -/
theorem Phi_succ (c : Dev nD) (t : Fin cfg0.N) : (dats m 0 c).Φ t.succ = PhiS m c (t.val + 1) := rfl

/-! What the body leaves in each window, what it finds in the inputs, and the post of each window. -/

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]

theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]

theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]

theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]

theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]

theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]

theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]

theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]

theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]

theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]

theorem after0_12 (c : Dev nD) (t : Fin cfg0.N) : (dats m 0 c).after 12 t = Body.rY m c := by dsimp only [dats]
theorem leaves0_12 (c : Dev nD) (t : Fin cfg0.N) (h : t.val % 9 = 8) : (dats m 0 c).leavesExact 12 t = owns (c : Thread nD τ) (ms0_12 t) fullShare (Body.rY m c) := by
  have hi : cfg0.idle 12 (cfg0.grid.coords t) = false := by
    show (!(k0_cond2 (grid0.coords t) == 1#1)) = false
    rw [(hcond0_1 t).mpr h]; rfl
  unfold Dat.leavesExact; rw [hi, after0_12]
theorem idle0_12' (c : Dev nD) (t : Fin cfg0.N) (h : ¬t.val % 9 = 8) : (dats m 0 c).leavesExact 12 t = iprop(∃ d, owns (c : Thread nD τ) (ms0_12 t) fullShare ((dats m 0 c).before 12 t d)) :=
  (dats m 0 c).leavesExact_idle 12 t (by
    show (!(k0_cond2 (grid0.coords t) == 1#1)) = true
    rw [Bool.not_eq_true', beq_eq_false_iff_ne]; exact fun hc => h ((hcond0_1 t).mp hc))
    (Bool.eq_false_iff.mpr fun hf => h ((flush0_12 t).mp hf))

theorem after0_13 (c : Dev nD) (t : Fin cfg0.N) : (dats m 0 c).after 13 t = Body.rYs m c := by dsimp only [dats]
theorem leaves0_13 (c : Dev nD) (t : Fin cfg0.N) (h : t.val % 9 = 8) : (dats m 0 c).leavesExact 13 t = owns (c : Thread nD τ) (ms0_13 t) fullShare (Body.rYs m c) := by
  have hi : cfg0.idle 13 (cfg0.grid.coords t) = false := by
    show (!(k0_cond2 (grid0.coords t) == 1#1)) = false
    rw [(hcond0_1 t).mpr h]; rfl
  unfold Dat.leavesExact; rw [hi, after0_13]
theorem idle0_13' (c : Dev nD) (t : Fin cfg0.N) (h : ¬t.val % 9 = 8) : (dats m 0 c).leavesExact 13 t = iprop(∃ d, owns (c : Thread nD τ) (ms0_13 t) fullShare ((dats m 0 c).before 13 t d)) :=
  (dats m 0 c).leavesExact_idle 13 t (by
    show (!(k0_cond2 (grid0.coords t) == 1#1)) = true
    rw [Bool.not_eq_true', beq_eq_false_iff_ne]; exact fun hc => h ((hcond0_1 t).mp hc))
    (Bool.eq_false_iff.mpr fun hf => h ((flush0_13 t).mp hf))

theorem after0_14 (c : Dev nD) (t : Fin cfg0.N) : (dats m 0 c).after 14 t = Body.rG m c := by dsimp only [dats]
theorem leaves0_14 (c : Dev nD) (t : Fin cfg0.N) (h : t.val % 9 = 8) : (dats m 0 c).leavesExact 14 t = owns (c : Thread nD τ) (ms0_14 t) fullShare (Body.rG m c) := by
  have hi : cfg0.idle 14 (cfg0.grid.coords t) = false := by
    show (!(k0_cond2 (grid0.coords t) == 1#1)) = false
    rw [(hcond0_1 t).mpr h]; rfl
  unfold Dat.leavesExact; rw [hi, after0_14]
theorem idle0_14' (c : Dev nD) (t : Fin cfg0.N) (h : ¬t.val % 9 = 8) : (dats m 0 c).leavesExact 14 t = iprop(∃ d, owns (c : Thread nD τ) (ms0_14 t) fullShare ((dats m 0 c).before 14 t d)) :=
  (dats m 0 c).leavesExact_idle 14 t (by
    show (!(k0_cond2 (grid0.coords t) == 1#1)) = true
    rw [Bool.not_eq_true', beq_eq_false_iff_ne]; exact fun hc => h ((hcond0_1 t).mp hc))
    (Bool.eq_false_iff.mpr fun hf => h ((flush0_14 t).mp hf))

theorem after0_15 (c : Dev nD) (t : Fin cfg0.N) : (dats m 0 c).after 15 t = Body.rPc m c := by dsimp only [dats]
theorem leaves0_15 (c : Dev nD) (t : Fin cfg0.N) (h : t.val % 9 = 8) : (dats m 0 c).leavesExact 15 t = owns (c : Thread nD τ) (ms0_15 t) fullShare (Body.rPc m c) := by
  have hi : cfg0.idle 15 (cfg0.grid.coords t) = false := by
    show (!(k0_cond2 (grid0.coords t) == 1#1)) = false
    rw [(hcond0_1 t).mpr h]; rfl
  unfold Dat.leavesExact; rw [hi, after0_15]
theorem idle0_15' (c : Dev nD) (t : Fin cfg0.N) (h : ¬t.val % 9 = 8) : (dats m 0 c).leavesExact 15 t = iprop(∃ d, owns (c : Thread nD τ) (ms0_15 t) fullShare ((dats m 0 c).before 15 t d)) :=
  (dats m 0 c).leavesExact_idle 15 t (by
    show (!(k0_cond2 (grid0.coords t) == 1#1)) = true
    rw [Bool.not_eq_true', beq_eq_false_iff_ne]; exact fun hc => h ((hcond0_1 t).mp hc))
    (Bool.eq_false_iff.mpr fun hf => h ((flush0_15 t).mp hf))

theorem after0_16 (c : Dev nD) (t : Fin cfg0.N) : (dats m 0 c).after 16 t = Body.rPs m c := by dsimp only [dats]
theorem leaves0_16 (c : Dev nD) (t : Fin cfg0.N) (h : t.val % 9 = 8) : (dats m 0 c).leavesExact 16 t = owns (c : Thread nD τ) (ms0_16 t) fullShare (Body.rPs m c) := by
  have hi : cfg0.idle 16 (cfg0.grid.coords t) = false := by
    show (!(k0_cond2 (grid0.coords t) == 1#1)) = false
    rw [(hcond0_1 t).mpr h]; rfl
  unfold Dat.leavesExact; rw [hi, after0_16]
theorem idle0_16' (c : Dev nD) (t : Fin cfg0.N) (h : ¬t.val % 9 = 8) : (dats m 0 c).leavesExact 16 t = iprop(∃ d, owns (c : Thread nD τ) (ms0_16 t) fullShare ((dats m 0 c).before 16 t d)) :=
  (dats m 0 c).leavesExact_idle 16 t (by
    show (!(k0_cond2 (grid0.coords t) == 1#1)) = true
    rw [Bool.not_eq_true', beq_eq_false_iff_ne]; exact fun hc => h ((hcond0_1 t).mp hc))
    (Bool.eq_false_iff.mpr fun hf => h ((flush0_16 t).mp hf))

theorem after0_17 (c : Dev nD) (t : Fin cfg0.N) : (dats m 0 c).after 17 t = Body.rHc m c := by dsimp only [dats]
theorem leaves0_17 (c : Dev nD) (t : Fin cfg0.N) (h : t.val % 9 = 8) : (dats m 0 c).leavesExact 17 t = owns (c : Thread nD τ) (ms0_17 t) fullShare (Body.rHc m c) := by
  have hi : cfg0.idle 17 (cfg0.grid.coords t) = false := by
    show (!(k0_cond2 (grid0.coords t) == 1#1)) = false
    rw [(hcond0_1 t).mpr h]; rfl
  unfold Dat.leavesExact; rw [hi, after0_17]
theorem idle0_17' (c : Dev nD) (t : Fin cfg0.N) (h : ¬t.val % 9 = 8) : (dats m 0 c).leavesExact 17 t = iprop(∃ d, owns (c : Thread nD τ) (ms0_17 t) fullShare ((dats m 0 c).before 17 t d)) :=
  (dats m 0 c).leavesExact_idle 17 t (by
    show (!(k0_cond2 (grid0.coords t) == 1#1)) = true
    rw [Bool.not_eq_true', beq_eq_false_iff_ne]; exact fun hc => h ((hcond0_1 t).mp hc))
    (Bool.eq_false_iff.mpr fun hf => h ((flush0_17 t).mp hf))

theorem after0_18 (c : Dev nD) (t : Fin cfg0.N) : (dats m 0 c).after 18 t = Body.rHs m c := by dsimp only [dats]
theorem leaves0_18 (c : Dev nD) (t : Fin cfg0.N) (h : t.val % 9 = 8) : (dats m 0 c).leavesExact 18 t = owns (c : Thread nD τ) (ms0_18 t) fullShare (Body.rHs m c) := by
  have hi : cfg0.idle 18 (cfg0.grid.coords t) = false := by
    show (!(k0_cond2 (grid0.coords t) == 1#1)) = false
    rw [(hcond0_1 t).mpr h]; rfl
  unfold Dat.leavesExact; rw [hi, after0_18]
theorem idle0_18' (c : Dev nD) (t : Fin cfg0.N) (h : ¬t.val % 9 = 8) : (dats m 0 c).leavesExact 18 t = iprop(∃ d, owns (c : Thread nD τ) (ms0_18 t) fullShare ((dats m 0 c).before 18 t d)) :=
  (dats m 0 c).leavesExact_idle 18 t (by
    show (!(k0_cond2 (grid0.coords t) == 1#1)) = true
    rw [Bool.not_eq_true', beq_eq_false_iff_ne]; exact fun hc => h ((hcond0_1 t).mp hc))
    (Bool.eq_false_iff.mpr fun hf => h ((flush0_18 t).mp hf))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

/-- The grid coordinate of point `t`. -/
theorem coord_t (t : Fin cfg0.N) : (grid0.coords t 0).val = t.val := by
  have e0 : (grid0.coords t 0).val = t.val / 1 % 9 := Pipeline.Grid.coords_val t 0 (by decide) rfl
  have ht : t.val < 9 := Nat.lt_of_lt_of_eq t.isLt N_0
  omega

/-- After point `t`'s stores the buffer agrees with the array on the tiles up to `t`. -/
theorem upto1 (c : Dev nD) (t : Fin cfg0.N) (xk : Vec F S3x224x1536 .bf16) (hx : xk = Body.XK m c) (M : Memref sig .tc .vmem S9x4x7x8x256 .f32) (f : M.view.ty.Contents (Elt F))
    (hS : ∀ y : S9x4x7x8x256.Idx, (y 0).val < t.val → M.view.read (Elt F) f y = Body.ACT m c y) :
    ∀ y : S9x4x7x8x256.Idx, (y 0).val < t.val + 1 → M.view.read (Elt F) (M.view.writes (Elt F) f (Body.L1 (grid0.coords t) xk (iblk m c 1 t) (iblk m c 2 t) (iblk m c 3 t) (iblk m c 4 t) (iblk m c 5 t))) y = Body.ACT m c y := by
  subst hx
  intro y hy
  refine Body.step1 M f (grid0.coords t) _ _ _ _ _ _ (Body.ACT m c) (fun y h => hS y (by rw [coord_t] at h; exact h)) (fun y h => ?_) y (by rw [coord_t]; exact hy)
  rw [coord_t] at h
  have ht : Body.pt (y 0) = t := Fin.ext h
  unfold Body.ACT Body.tile
  rw [ht]

/-- After point `t`'s stores the buffer agrees with the array on the tiles up to `t`. -/
theorem upto2 (c : Dev nD) (t : Fin cfg0.N) (xk : Vec F S3x224x1536 .bf16) (hx : xk = Body.XK m c) (M : Memref sig .tc .vmem S9x4x256 .f32) (f : M.view.ty.Contents (Elt F))
    (hS : ∀ y : S9x4x256.Idx, (y 0).val < t.val → M.view.read (Elt F) f y = Body.POOL m c y) :
    ∀ y : S9x4x256.Idx, (y 0).val < t.val + 1 → M.view.read (Elt F) (M.view.writes (Elt F) f (Body.L2 (grid0.coords t) xk (iblk m c 1 t) (iblk m c 2 t) (iblk m c 3 t) (iblk m c 4 t) (iblk m c 5 t))) y = Body.POOL m c y := by
  subst hx
  intro y hy
  refine Body.step2 M f (grid0.coords t) _ _ _ _ _ _ (Body.POOL m c) (fun y h => hS y (by rw [coord_t] at h; exact h)) (fun y h => ?_) y (by rw [coord_t]; exact hy)
  rw [coord_t] at h
  have ht : Body.pt (y 0) = t := Fin.ext h
  unfold Body.POOL Body.tile
  rw [ht]

/-- After point `t`'s stores the buffer agrees with the array on the tiles up to `t`. -/
theorem upto3 (c : Dev nD) (t : Fin cfg0.N) (xk : Vec F S3x224x1536 .bf16) (hx : xk = Body.XK m c) (M : Memref sig .tc .vmem S9x4x256 .f32) (f : M.view.ty.Contents (Elt F))
    (hS : ∀ y : S9x4x256.Idx, (y 0).val < t.val → M.view.read (Elt F) f y = Body.MX m c y) :
    ∀ y : S9x4x256.Idx, (y 0).val < t.val + 1 → M.view.read (Elt F) (M.view.writes (Elt F) f (Body.L3 (grid0.coords t) xk (iblk m c 1 t) (iblk m c 2 t) (iblk m c 3 t) (iblk m c 4 t) (iblk m c 5 t))) y = Body.MX m c y := by
  subst hx
  intro y hy
  refine Body.step3 M f (grid0.coords t) _ _ _ _ _ _ (Body.MX m c) (fun y h => hS y (by rw [coord_t] at h; exact h)) (fun y h => ?_) y (by rw [coord_t]; exact hy)
  rw [coord_t] at h
  have ht : Body.pt (y 0) = t := Fin.ext h
  unfold Body.MX Body.tile
  rw [ht]

/-- The point on the last tile. -/
theorem pt_last (t : Fin cfg0.N) (h : t.val % 9 = 8) : t = Body.pt 8 := by
  have ht : t.val < 9 := Nat.lt_of_lt_of_eq t.isLt N_0
  exact Fin.ext (by show t.val = 8; omega)

/-- The point on the first tile. -/
theorem pt_first (t : Fin cfg0.N) (h : t.val % 9 = 0) : t = Body.pt 0 := by
  have ht : t.val < 9 := Nat.lt_of_lt_of_eq t.isLt N_0
  exact Fin.ext (by show t.val = 0; omega)

/-- The shifted inputs the first point leaves. -/
theorem xkA (c : Dev nD) (t : Fin cfg0.N) (h0 : t.val % 9 = 0) : View.canon (runA.sl.HS0_42 c (ms0_0 t) (hs0_0 t) (iblk m c 0 t)) = Body.XK m c := by
  rw [HS0_42_eq, pt_first t h0]; rfl

/-- At the last point the buffer is complete. -/
theorem full1 (c : Dev nD) (t : Fin cfg0.N) (h1 : t.val % 9 = 8) (xs : Vec F S9x4x7x8x256 .f32) (hx : ∀ y : S9x4x7x8x256.Idx, (y 0).val < t.val → xs y = Body.ACT m c y) (h : scM0_1.IsWhole) :
    scM0_1.view.read (Elt F) (scM0_1.view.writes (Elt F) (h.unread xs) (Body.L1 (grid0.coords t) (Body.XK m c) (iblk m c 1 t) (iblk m c 2 t) (iblk m c 3 t) (iblk m c 4 t) (iblk m c 5 t))) = Body.ACT m c := by
  funext y
  have hy : (y 0).val < 9 := (y 0).isLt
  exact upto1 m c t _ rfl scM0_1 _ (fun y hy => by rw [Memref.IsWhole.read_unread]; exact hx y hy) y (by omega)

/-- At the last point the buffer is complete. -/
theorem full2 (c : Dev nD) (t : Fin cfg0.N) (h1 : t.val % 9 = 8) (xs : Vec F S9x4x256 .f32) (hx : ∀ y : S9x4x256.Idx, (y 0).val < t.val → xs y = Body.POOL m c y) (h : scM0_2.IsWhole) :
    scM0_2.view.read (Elt F) (scM0_2.view.writes (Elt F) (h.unread xs) (Body.L2 (grid0.coords t) (Body.XK m c) (iblk m c 1 t) (iblk m c 2 t) (iblk m c 3 t) (iblk m c 4 t) (iblk m c 5 t))) = Body.POOL m c := by
  funext y
  have hy : (y 0).val < 9 := (y 0).isLt
  exact upto2 m c t _ rfl scM0_2 _ (fun y hy => by rw [Memref.IsWhole.read_unread]; exact hx y hy) y (by omega)

/-- At the last point the buffer is complete. -/
theorem full3 (c : Dev nD) (t : Fin cfg0.N) (h1 : t.val % 9 = 8) (xs : Vec F S9x4x256 .f32) (hx : ∀ y : S9x4x256.Idx, (y 0).val < t.val → xs y = Body.MX m c y) (h : scM0_3.IsWhole) :
    scM0_3.view.read (Elt F) (scM0_3.view.writes (Elt F) (h.unread xs) (Body.L3 (grid0.coords t) (Body.XK m c) (iblk m c 1 t) (iblk m c 2 t) (iblk m c 3 t) (iblk m c 4 t) (iblk m c 5 t))) = Body.MX m c := by
  funext y
  have hy : (y 0).val < 9 := (y 0).isLt
  exact upto3 m c t _ rfl scM0_3 _ (fun y hy => by rw [Memref.IsWhole.read_unread]; exact hx y hy) y (by omega)

/-- What the last point stores into window 12 reads back as its result. -/
theorem outC12 (c : Dev nD) (t : Fin cfg0.N) (h0 : ¬t.val % 9 = 0) (h1 : t.val % 9 = 8) (f : (ms0_12 t).view.ty.Contents (Elt F))
    (xs1 : Vec F S9x4x7x8x256 .f32) (xs2 xs3 : Vec F S9x4x256 .f32)
    (hx1 : ∀ y : S9x4x7x8x256.Idx, (y 0).val < t.val → xs1 y = Body.ACT m c y) (hx2 : ∀ y : S9x4x256.Idx, (y 0).val < t.val → xs2 y = Body.POOL m c y)
    (hx3 : ∀ y : S9x4x256.Idx, (y 0).val < t.val → xs3 y = Body.MX m c y) :
    (ms0_12 t).view.read (Elt F) ((ms0_12 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).1.2.2.2.1) = Body.rY m c := by
  rw [runC_4, full1 m c t h1 xs1 hx1, full2 m c t h1 xs2 hx2, full3 m c t h1 xs3 hx3]
  rw [Body.yL_read]
  rw [pt_last t h1]; rfl

/-- What the last point stores into window 13 reads back as its result. -/
theorem outC13 (c : Dev nD) (t : Fin cfg0.N) (h0 : ¬t.val % 9 = 0) (h1 : t.val % 9 = 8) (f : (ms0_13 t).view.ty.Contents (Elt F))
    (xs1 : Vec F S9x4x7x8x256 .f32) (xs2 xs3 : Vec F S9x4x256 .f32)
    (hx1 : ∀ y : S9x4x7x8x256.Idx, (y 0).val < t.val → xs1 y = Body.ACT m c y) (hx2 : ∀ y : S9x4x256.Idx, (y 0).val < t.val → xs2 y = Body.POOL m c y)
    (hx3 : ∀ y : S9x4x256.Idx, (y 0).val < t.val → xs3 y = Body.MX m c y) :
    (ms0_13 t).view.read (Elt F) ((ms0_13 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).1.2.2.2.2.1) = Body.rYs m c := by
  rw [runC_5, full2 m c t h1 xs2 hx2, full3 m c t h1 xs3 hx3]
  refine (Body.one_read (ms0_13 t) f (by decide) _ _).trans ?_
  rw [pt_last t h1]; rfl

/-- What the last point stores into window 14 reads back as its result. -/
theorem outC14 (c : Dev nD) (t : Fin cfg0.N) (h0 : ¬t.val % 9 = 0) (h1 : t.val % 9 = 8) (f : (ms0_14 t).view.ty.Contents (Elt F))
    (xs1 : Vec F S9x4x7x8x256 .f32) (xs2 xs3 : Vec F S9x4x256 .f32)
    (hx1 : ∀ y : S9x4x7x8x256.Idx, (y 0).val < t.val → xs1 y = Body.ACT m c y) (hx2 : ∀ y : S9x4x256.Idx, (y 0).val < t.val → xs2 y = Body.POOL m c y)
    (hx3 : ∀ y : S9x4x256.Idx, (y 0).val < t.val → xs3 y = Body.MX m c y) :
    (ms0_14 t).view.read (Elt F) ((ms0_14 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).1.2.2.2.2.2.1) = Body.rG m c := by
  rw [runC_6, full2 m c t h1 xs2 hx2]
  refine (Body.one_read (ms0_14 t) f (by decide) _ _).trans ?_
  rw [pt_last t h1]; rfl

/-- What the last point stores into window 15 reads back as its result. -/
theorem outC15 (c : Dev nD) (t : Fin cfg0.N) (h0 : ¬t.val % 9 = 0) (h1 : t.val % 9 = 8) (f : (ms0_15 t).view.ty.Contents (Elt F))
    (xs1 : Vec F S9x4x7x8x256 .f32) (xs2 xs3 : Vec F S9x4x256 .f32)
    (hx1 : ∀ y : S9x4x7x8x256.Idx, (y 0).val < t.val → xs1 y = Body.ACT m c y) (hx2 : ∀ y : S9x4x256.Idx, (y 0).val < t.val → xs2 y = Body.POOL m c y)
    (hx3 : ∀ y : S9x4x256.Idx, (y 0).val < t.val → xs3 y = Body.MX m c y) :
    (ms0_15 t).view.read (Elt F) ((ms0_15 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).1.2.2.2.2.2.2.1) = Body.rPc m c := by
  rw [runC_7, full2 m c t h1 xs2 hx2]
  refine (Body.one_read (ms0_15 t) f (by decide) _ _).trans ?_
  rfl

/-- What the last point stores into window 16 reads back as its result. -/
theorem outC16 (c : Dev nD) (t : Fin cfg0.N) (h0 : ¬t.val % 9 = 0) (h1 : t.val % 9 = 8) (f : (ms0_16 t).view.ty.Contents (Elt F))
    (xs1 : Vec F S9x4x7x8x256 .f32) (xs2 xs3 : Vec F S9x4x256 .f32)
    (hx1 : ∀ y : S9x4x7x8x256.Idx, (y 0).val < t.val → xs1 y = Body.ACT m c y) (hx2 : ∀ y : S9x4x256.Idx, (y 0).val < t.val → xs2 y = Body.POOL m c y)
    (hx3 : ∀ y : S9x4x256.Idx, (y 0).val < t.val → xs3 y = Body.MX m c y) :
    (ms0_16 t).view.read (Elt F) ((ms0_16 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).1.2.2.2.2.2.2.2.1) = Body.rPs m c := by
  rw [runC_8, full2 m c t h1 xs2 hx2]
  refine (Body.one_read (ms0_16 t) f (by decide) _ _).trans ?_
  rfl

/-- What the last point stores into window 17 reads back as its result. -/
theorem outC17 (c : Dev nD) (t : Fin cfg0.N) (h0 : ¬t.val % 9 = 0) (h1 : t.val % 9 = 8) (f : (ms0_17 t).view.ty.Contents (Elt F))
    (xs1 : Vec F S9x4x7x8x256 .f32) (xs2 xs3 : Vec F S9x4x256 .f32)
    (hx1 : ∀ y : S9x4x7x8x256.Idx, (y 0).val < t.val → xs1 y = Body.ACT m c y) (hx2 : ∀ y : S9x4x256.Idx, (y 0).val < t.val → xs2 y = Body.POOL m c y)
    (hx3 : ∀ y : S9x4x256.Idx, (y 0).val < t.val → xs3 y = Body.MX m c y) :
    (ms0_17 t).view.read (Elt F) ((ms0_17 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).1.2.2.2.2.2.2.2.2.1) = Body.rHc m c := by
  rw [runC_9, full2 m c t h1 xs2 hx2]
  refine (Body.one_read (ms0_17 t) f (by decide) _ _).trans ?_
  rw [pt_last t h1]; rfl

/-- What the last point stores into window 18 reads back as its result. -/
theorem outC18 (c : Dev nD) (t : Fin cfg0.N) (h0 : ¬t.val % 9 = 0) (h1 : t.val % 9 = 8) (f : (ms0_18 t).view.ty.Contents (Elt F))
    (xs1 : Vec F S9x4x7x8x256 .f32) (xs2 xs3 : Vec F S9x4x256 .f32)
    (hx1 : ∀ y : S9x4x7x8x256.Idx, (y 0).val < t.val → xs1 y = Body.ACT m c y) (hx2 : ∀ y : S9x4x256.Idx, (y 0).val < t.val → xs2 y = Body.POOL m c y)
    (hx3 : ∀ y : S9x4x256.Idx, (y 0).val < t.val → xs3 y = Body.MX m c y) :
    (ms0_18 t).view.read (Elt F) ((ms0_18 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).1.2.2.2.2.2.2.2.2.2) = Body.rHs m c := by
  rw [runC_10, full2 m c t h1 xs2 hx2]
  refine (Body.one_read (ms0_18 t) f (by decide) _ _).trans ?_
  rw [pt_last t h1]; rfl

set_option maxHeartbeats 24000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () t.succ = (dats m 0 c).owesAt () t.castSucc from rfl]
  rw [Phi_succ, PhiS_succ, Phi_castSucc]
  have hN : t.val < 9 := lt_of_lt_of_eq t.isLt (show cfg0.N = 9 from N_0)
  by_cases h0 : t.val % 9 = 0
  · have hz : t.val = 0 := by omega
    have h1 : ¬t.val % 9 = 8 := by omega
    rw [idle0_12' m c t h1, idle0_13' m c t h1, idle0_14' m c t h1, idle0_15' m c t h1, idle0_16' m c t h1, idle0_17' m c t h1, idle0_18' m c t h1]
    rw [PhiS_zero m c _ hz, PhiA0_eq]
    iintro ⟨⟨⟨⟨%xs0, HS0⟩, ⟨%xs1, HS1⟩, ⟨%xs2, HS2⟩, ⟨%xs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runA c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs0 xs1 xs2 xs3).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]
        · unfold owns; iexists _; isplitr
          swap; · iexact HS0
          ipureintro
          rw [runA_0, HS0_42_eq, pt_first t h0]; exact Body.xk_read _ _ _
        isplitl [HS1]
        · iexists _; isplitr
          swap; · unfold owns; iexists _; isplitr
                  swap; · iexact HS1
                  ipureintro; rfl
          ipureintro
          rw [runA_1]
          exact upto1 m c t _ (xkA m c t h0) _ _ (fun y hy => by exfalso; omega)
        isplitl [HS2]
        · iexists _; isplitr
          swap; · unfold owns; iexists _; isplitr
                  swap; · iexact HS2
                  ipureintro; rfl
          ipureintro
          rw [runA_2]
          exact upto2 m c t _ (xkA m c t h0) _ _ (fun y hy => by exfalso; omega)
        iexists _; isplitr
        swap; · unfold owns; iexists _; isplitr
                swap; · iexact HS3
                ipureintro; rfl
        ipureintro
        rw [runA_3]
        exact upto3 m c t _ (xkA m c t h0) _ _ (fun y hy => by exfalso; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    iexists _; iexact H18
  · by_cases h1 : t.val % 9 = 8
    · rw [leaves0_12 m c t h1, leaves0_13 m c t h1, leaves0_14 m c t h1, leaves0_15 m c t h1, leaves0_16 m c t h1, leaves0_17 m c t h1, leaves0_18 m c t h1]
      obtain ⟨n, hn⟩ : ∃ n, t.val = n + 1 := ⟨t.val - 1, by omega⟩
      rw [hn, PhiS_succ m c n, ← hn]
      iintro ⟨⟨⟨HS0, ⟨%xs1, %hx1, HS1⟩, ⟨%xs2, %hx2, HS2⟩, ⟨%xs3, %hx3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runC c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      isplitl [HS2]; · iexact HS2
      isplitl [HS3]; · iexact HS3
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, HS0, HS1, HS2, HS3⟩
      isplitl [HS0 HS1 HS2 HS3 Hg]
      · isplitl [HS0 HS1 HS2 HS3]
        · isplitl [HS0]; · iexact HS0
          isplitl [HS1]
          · iexists _; isplitr
            swap; · unfold owns; iexists _; isplitr
                    swap; · iexact HS1
                    ipureintro; rfl
            ipureintro
            rw [runC_1]
            exact upto1 m c t _ (rfl) _ _ (fun y hy => by rw [Memref.IsWhole.read_unread]; exact hx1 y hy)
          isplitl [HS2]
          · iexists _; isplitr
            swap; · unfold owns; iexists _; isplitr
                    swap; · iexact HS2
                    ipureintro; rfl
            ipureintro
            rw [runC_2]
            exact upto2 m c t _ (rfl) _ _ (fun y hy => by rw [Memref.IsWhole.read_unread]; exact hx2 y hy)
          iexists _; isplitr
          swap; · unfold owns; iexists _; isplitr
                  swap; · iexact HS3
                  ipureintro; rfl
          ipureintro
          rw [runC_3]
          exact upto3 m c t _ (rfl) _ _ (fun y hy => by rw [Memref.IsWhole.read_unread]; exact hx3 y hy)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro
        exact outC12 m c t h0 h1 _ _ _ _ hx1 hx2 hx3
      isplitl [H13]
      · unfold owns; iexists _; isplitr
        swap; · iexact H13
        ipureintro
        exact outC13 m c t h0 h1 _ _ _ _ hx1 hx2 hx3
      isplitl [H14]
      · unfold owns; iexists _; isplitr
        swap; · iexact H14
        ipureintro
        exact outC14 m c t h0 h1 _ _ _ _ hx1 hx2 hx3
      isplitl [H15]
      · unfold owns; iexists _; isplitr
        swap; · iexact H15
        ipureintro
        exact outC15 m c t h0 h1 _ _ _ _ hx1 hx2 hx3
      isplitl [H16]
      · unfold owns; iexists _; isplitr
        swap; · iexact H16
        ipureintro
        exact outC16 m c t h0 h1 _ _ _ _ hx1 hx2 hx3
      isplitl [H17]
      · unfold owns; iexists _; isplitr
        swap; · iexact H17
        ipureintro
        exact outC17 m c t h0 h1 _ _ _ _ hx1 hx2 hx3
      unfold owns; iexists _; isplitr
      swap; · iexact H18
      ipureintro
      exact outC18 m c t h0 h1 _ _ _ _ hx1 hx2 hx3
    · rw [idle0_12' m c t h1, idle0_13' m c t h1, idle0_14' m c t h1, idle0_15' m c t h1, idle0_16' m c t h1, idle0_17' m c t h1, idle0_18' m c t h1]
      obtain ⟨n, hn⟩ : ∃ n, t.val = n + 1 := ⟨t.val - 1, by omega⟩
      rw [hn, PhiS_succ m c n, ← hn]
      iintro ⟨⟨⟨HS0, ⟨%xs1, %hx1, HS1⟩, ⟨%xs2, %hx2, HS2⟩, ⟨%xs3, %hx3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((runB c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Body.XK m c) xs1 xs2 xs3).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · isplitl [HS0 HS1 HS2 HS3]
        · isplitl [HS0]; · iexact HS0
          isplitl [HS1]
          · iexists _; isplitr
            swap; · unfold owns; iexists _; isplitr
                    swap; · iexact HS1
                    ipureintro; rfl
            ipureintro
            rw [runB_1]
            exact upto1 m c t _ (rfl) _ _ (fun y hy => by rw [Memref.IsWhole.read_unread]; exact hx1 y hy)
          isplitl [HS2]
          · iexists _; isplitr
            swap; · unfold owns; iexists _; isplitr
                    swap; · iexact HS2
                    ipureintro; rfl
            ipureintro
            rw [runB_2]
            exact upto2 m c t _ (rfl) _ _ (fun y hy => by rw [Memref.IsWhole.read_unread]; exact hx2 y hy)
          iexists _; isplitr
          swap; · unfold owns; iexists _; isplitr
                  swap; · iexact HS3
                  ipureintro; rfl
          ipureintro
          rw [runB_3]
          exact upto3 m c t _ (rfl) _ _ (fun y hy => by rw [Memref.IsWhole.read_unread]; exact hx3 y hy)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · iexists _; iexact H12
      isplitl [H13]
      · iexists _; iexact H13
      isplitl [H14]
      · iexists _; iexact H14
      isplitl [H15]
      · iexists _; iexact H15
      isplitl [H16]
      · iexists _; iexact H16
      isplitl [H17]
      · iexists _; iexact H17
      iexists _; iexact H18

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the launch's back. -/
theorem hout (c : Dev nD) : (dats m 0 c).Φ (Fin.last cfg0.N) ⊢ Pipeline.ΦA spec0 c := by
  rw [show (dats m 0 c).Φ (Fin.last cfg0.N) = PhiS m c (8 + 1) from by
    show PhiS m c (Fin.last cfg0.N).val = _; rw [Fin.val_last, show cfg0.N = 9 from N_0], PhiS_succ, PhiA0_eq]
  iintro ⟨⟨HS0, ⟨%xs1, %hx1, HS1⟩, ⟨%xs2, %hx2, HS2⟩, ⟨%xs3, %hx3, HS3⟩⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch: the run's final arrays are the proof data's, and every semaphore counter is at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Run

end
-- ==== Proof.KI.Final.lean ====
module

public import proofs.«01_k».proof.Proof.KI.Track
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The last grid point. -/
abbrev tl : Fin cfg0.N := ⟨8, by decide⟩

/-- Result 0 after the run. -/
theorem final12 (c : Dev nD) : (dats m 0 c).arrAt 12 cfg0.N = Body.rY m c := by
  refine (dats m 0 c).arrAt_eq_of_after_last 12 tl (by decide +kernel) _ fun j => ?_
  rw [after0_12]
  blk_simp
  blk_ext

/-- Result 1 after the run. -/
theorem final13 (c : Dev nD) : (dats m 0 c).arrAt 13 cfg0.N = Body.rYs m c := by
  refine (dats m 0 c).arrAt_eq_of_after_last 13 tl (by decide +kernel) _ fun j => ?_
  rw [after0_13]
  blk_simp
  blk_ext

/-- Result 2 after the run. -/
theorem final14 (c : Dev nD) : (dats m 0 c).arrAt 14 cfg0.N = Body.rG m c := by
  refine (dats m 0 c).arrAt_eq_of_after_last 14 tl (by decide +kernel) _ fun j => ?_
  rw [after0_14]
  blk_simp
  blk_ext

/-- Result 3 after the run. -/
theorem final15 (c : Dev nD) : (dats m 0 c).arrAt 15 cfg0.N = Body.rPc m c := by
  refine (dats m 0 c).arrAt_eq_of_after_last 15 tl (by decide +kernel) _ fun j => ?_
  rw [after0_15]
  blk_simp
  blk_ext

/-- Result 4 after the run. -/
theorem final16 (c : Dev nD) : (dats m 0 c).arrAt 16 cfg0.N = Body.rPs m c := by
  refine (dats m 0 c).arrAt_eq_of_after_last 16 tl (by decide +kernel) _ fun j => ?_
  rw [after0_16]
  blk_simp
  blk_ext

/-- Result 5 after the run. -/
theorem final17 (c : Dev nD) : (dats m 0 c).arrAt 17 cfg0.N = Body.rHc m c := by
  refine (dats m 0 c).arrAt_eq_of_after_last 17 tl (by decide +kernel) _ fun j => ?_
  rw [after0_17]
  blk_simp
  blk_ext

/-- Result 6 after the run. -/
theorem final18 (c : Dev nD) : (dats m 0 c).arrAt 18 cfg0.N = Body.rHs m c := by
  refine (dats m 0 c).arrAt_eq_of_after_last 18 tl (by decide +kernel) _ fun j => ?_
  rw [after0_18]
  blk_simp
  blk_ext

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

/-- The results after the run. -/
theorem results : θ_run defs (onTc (τ := τ) (main (F := F))) ⟨m, fun _ => 0, ρ⟩ (fun r => ∀ c : Dev nD,
      r.2.mem ((c.tc : Thread nD τ).loc main_v7_0) = Body.rY m c
      ∧ r.2.mem ((c.tc : Thread nD τ).loc main_v7_1) = Body.rYs m c
      ∧ r.2.mem ((c.tc : Thread nD τ).loc main_v7_2) = Body.rG m c
      ∧ r.2.mem ((c.tc : Thread nD τ).loc main_v7_3) = Body.rPc m c
      ∧ r.2.mem ((c.tc : Thread nD τ).loc main_v7_4) = Body.rPs m c
      ∧ r.2.mem ((c.tc : Thread nD τ).loc main_v7_5) = Body.rHc m c
      ∧ r.2.mem ((c.tc : Thread nD τ).loc main_v7_6) = Body.rHs m c) :=
  (θ_run defs _ _).mono (fun _ h c => ⟨((h c).1 12).trans (final12 m c), ((h c).1 13).trans (final13 m c), ((h c).1 14).trans (final14 m c), ((h c).1 15).trans (final15 m c), ((h c).1 16).trans (final16 m c), ((h c).1 17).trans (final17 m c), ((h c).1 18).trans (final18 m c)⟩) (run_main m ρ)

/-- The whole run: results and unchanged arguments. -/
theorem run : θ_run defs (onTc (τ := τ) (main (F := F))) ⟨m, fun _ => 0, ρ⟩ (fun r => ∀ c : Dev nD,
      r.2.mem ((c.tc : Thread nD τ).loc main_v7_0) = Body.rY m c
      ∧ r.2.mem ((c.tc : Thread nD τ).loc main_v7_1) = Body.rYs m c
      ∧ r.2.mem ((c.tc : Thread nD τ).loc main_v7_2) = Body.rG m c
      ∧ r.2.mem ((c.tc : Thread nD τ).loc main_v7_3) = Body.rPc m c
      ∧ r.2.mem ((c.tc : Thread nD τ).loc main_v7_4) = Body.rPs m c
      ∧ r.2.mem ((c.tc : Thread nD τ).loc main_v7_5) = Body.rHc m c
      ∧ r.2.mem ((c.tc : Thread nD τ).loc main_v7_6) = Body.rHs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h.1 c).1, (h.1 c).2.1, (h.1 c).2.2.1, (h.1 c).2.2.2.1, (h.1 c).2.2.2.2.1, (h.1 c).2.2.2.2.2.1, (h.1 c).2.2.2.2.2.2, h.2 c⟩) (θ_run_and (results m ρ) (unchanged m ρ))

end Cert.KernelIdeal.Run

end
-- ==== Proof.Eq.Spec.lean ====
module

public import proofs.«01_k».proof.KernelIdeal
public import Idealize.ShloMosaic.Lib.Pointwise
public import Idealize.ShloMosaic.Lib.ValueIdx
public import Idealize.ShloMosaic.PureOps.Ideal

@[expose] public section

set_option maxRecDepth 16384

noncomputable section

namespace Cert.Eq

open Idealize.ShloMosaic Idealize.ShloMosaic.TcCoe Idealize.ShloMosaic.Tactic
open Cert.KernelIdeal (S4x7x8x1536 S3x3x1536x2304 S4 S2304 S4x2304 S384 S4x384)

/-- The padded input: row `h` and column `w` count from the zero border. -/
def px (X : Vec Ideal S4x7x8x1536 .i8) (b : Fin 4) (h w : Nat) (ci : Fin 1536) : EReal :=
  if hh : (1 ≤ h ∧ h ≤ 7) ∧ (1 ≤ w ∧ w ≤ 8) then (((X (ix4 b ⟨h - 1, by omega⟩ ⟨w - 1, by omega⟩ ci)).toInt : ℝ) : EReal) else 0

/-- The contribution of one tap of the convolution. -/
def tap (X : Vec Ideal S4x7x8x1536 .i8) (W : Vec Ideal S3x3x1536x2304 .i8) (kh kw : Fin 3) (b : Fin 4) (h : Fin 7) (w : Fin 8) (n : Fin 2304) : EReal :=
  ∑ ci : Fin 1536, px X b (h.val + kh.val) (w.val + kw.val) ci * (((W (ix4 kh kw ci n)).toInt : ℝ) : EReal)

/-- The convolution. -/
def conv (X : Vec Ideal S4x7x8x1536 .i8) (W : Vec Ideal S3x3x1536x2304 .i8) (b : Fin 4) (h : Fin 7) (w : Fin 8) (n : Fin 2304) : EReal :=
  tap X W 0 0 b h w n + tap X W 0 1 b h w n + tap X W 0 2 b h w n + tap X W 1 0 b h w n + tap X W 1 1 b h w n + tap X W 1 2 b h w n
    + tap X W 2 0 b h w n + tap X W 2 1 b h w n + tap X W 2 2 b h w n

/-- Above the image the padded input is zero. -/
theorem px_top (X) (b) (w) (ci) : px X b 0 w ci = 0 := by unfold px; rw [dif_neg (by omega)]

/-- Two indexes with equal coordinates. -/
theorem ix4_eq {n0 n1 n2 n3 : Nat} {a a' : Fin n0} {b b' : Fin n1} {c c' : Fin n2} {d d' : Fin n3} (ha : a.val = a'.val) (hb : b.val = b'.val) (hc : c.val = c'.val) (hd : d.val = d'.val) :
    ix4 a b c d = ix4 a' b' c' d' := by rw [Fin.ext ha, Fin.ext hb, Fin.ext hc, Fin.ext hd]

end Cert.Eq

end
-- ==== Proof.Eq.Spec2.lean ====
module

public import proofs.«01_k».proof.Proof.Eq.Spec

@[expose] public section

set_option maxRecDepth 16384

noncomputable section

namespace Cert.Eq

open Idealize.ShloMosaic Idealize.ShloMosaic.TcCoe Idealize.ShloMosaic.Tactic
open Cert.KernelIdeal (S4x7x8x1536 S3x3x1536x2304 S4 S2304 S4x2304 S384 S4x384 S2304x384 S384x2304)

/-- What the activation is taken of: the convolution, unscaled and normalised. -/
def zS (X : Vec Ideal S4x7x8x1536 .i8) (xs : Vec Ideal S4 .f32) (W : Vec Ideal S3x3x1536x2304 .i8) (ws bns bnb : Vec Ideal S2304 .f32) (b : Fin 4) (h : Fin 7) (w : Fin 8) (n : Fin 2304) : EReal :=
  conv X W b h w n * ((xs (ix1 b) : EReal) * (ws (ix1 n) : EReal)) * (bns (ix1 n) : EReal) + (bnb (ix1 n) : EReal)

/-- The activation. -/
def aS (X : Vec Ideal S4x7x8x1536 .i8) (xs : Vec Ideal S4 .f32) (W : Vec Ideal S3x3x1536x2304 .i8) (ws bns bnb : Vec Ideal S2304 .f32) (b : Fin 4) (h : Fin 7) (w : Fin 8) (n : Fin 2304) : EReal :=
  zS X xs W ws bns bnb b h w n * Ideal.logistic (zS X xs W ws bns bnb b h w n)

/-- The spatial mean of one channel. -/
def meanS (A : Fin 7 → Fin 8 → EReal) : EReal := Ideal.div (∑ h, ∑ w, A h w) (Ideal.ofBits .f32 0x42600000#32)

/-- The largest magnitude of a vector, from below everything. -/
def topS {n : Nat} (f : Fin n → EReal) : EReal :=
  (Finset.univ : Finset (Fin n)).fold max (Ideal.ofBits .f32 0xFF800000#32) fun x => FloatOps.absf (F := Ideal) (φ := .f32) (f x)

/-- The exponent of a positive number in the range a scale is taken in, and zero elsewhere. -/
def expS (t : EReal) : EReal :=
  Scalar.select (IntOp.andi (BitVec.ofBool (decide (Ideal.ofBits .f32 0x00800000#32 ≤ t))) (BitVec.ofBool (decide (t < Ideal.ofBits .f32 0x7E800000#32))))
    (Ideal.liftRound Int.floor (Ideal.div (Ideal.log t) (Ideal.log (Ideal.ofBits .f32 0x40000000#32))) + 1) (0 : EReal)

/-- The exponent of the scale of one vector. -/
def vexpS {n : Nat} (f : Fin n → EReal) : EReal := expS (topS f * Ideal.ofBits .f32 0x3B124925#32)

/-- The scale of one vector. -/
def scaleS {n : Nat} (f : Fin n → EReal) : EReal := Ideal.exp2 (vexpS f)

/-- The quantised vector. -/
def codeS {n : Nat} (f : Fin n → EReal) (k : Fin n) : EReal :=
  min (Ideal.ofBits .f32 0x43E00000#32) (max (Ideal.ofBits .f32 0xC3E00000#32) (f k * Ideal.exp2 (0 - vexpS f)))

/-- A product with a weight matrix, rescaled and shifted. -/
def linS {n p : Nat} (c : Fin n → EReal) (s : EReal) (W : Fin n → Fin p → EReal) (ws b : Fin p → EReal) (k : Fin p) : EReal :=
  (∑ x, c x * W x k) * s * ws k + b k

variable (a0 : Vec Ideal S4x7x8x1536 .i8) (a1 : Vec Ideal S4 .f32) (a2 : Vec Ideal S3x3x1536x2304 .i8) (a3 a4 a5 : Vec Ideal S2304 .f32)
  (a6 : Vec Ideal S2304x384 .fp8e4m3) (a7 a8 : Vec Ideal S384 .f32) (a9 : Vec Ideal S384x2304 .fp8e4m3) (a10 a11 : Vec Ideal S2304 .f32)

/-- The means. -/
def pS (b : Fin 4) (n : Fin 2304) : EReal := meanS fun h w => aS a0 a1 a2 a3 a4 a5 b h w n

/-- What the hidden layer is taken of. -/
def uS (b : Fin 4) (k : Fin 384) : EReal :=
  linS (codeS (pS a0 a1 a2 a3 a4 a5 b)) (scaleS (pS a0 a1 a2 a3 a4 a5 b)) (fun x y => (a6 (ix2 x y) : EReal)) (fun y => (a7 (ix1 y) : EReal)) (fun y => (a8 (ix1 y) : EReal)) k

/-- The hidden layer. -/
def hS (b : Fin 4) (k : Fin 384) : EReal := uS a0 a1 a2 a3 a4 a5 a6 a7 a8 b k * Ideal.logistic (uS a0 a1 a2 a3 a4 a5 a6 a7 a8 b k)

/-- The gate. -/
def gS (b : Fin 4) (n : Fin 2304) : EReal :=
  Ideal.logistic (linS (codeS (hS a0 a1 a2 a3 a4 a5 a6 a7 a8 b)) (scaleS (hS a0 a1 a2 a3 a4 a5 a6 a7 a8 b)) (fun x y => (a9 (ix2 x y) : EReal)) (fun y => (a10 (ix1 y) : EReal)) (fun y => (a11 (ix1 y) : EReal)) n)

/-- The largest magnitude of the gated activation. -/
def topYS : EReal :=
  (Finset.univ : Finset (Fin 4 × Fin 7 × Fin 8 × Fin 2304)).fold max (Ideal.ofBits .f32 0xFF800000#32) fun k =>
    FloatOps.absf (F := Ideal) (φ := .f32) (aS a0 a1 a2 a3 a4 a5 k.1 k.2.1 k.2.2.1 k.2.2.2 * gS a0 a1 a2 a3 a4 a5 a6 a7 a8 a9 a10 a11 k.1 k.2.2.2)

/-- The output scale from the largest magnitude. -/
def yscS (t : EReal) : EReal :=
  if t = 0 then 1 else Ideal.div t (Ideal.ofBits .f32 0x42FE0000#32)

/-- One 8-bit element of the output. -/
def yS (v s : EReal) : BitVec 8 :=
  Ideal.fptosi 8 (min (Ideal.ofBits .f32 0x42FE0000#32) (max (Ideal.ofBits .f32 0xC2FE0000#32) (Ideal.liftRound Ideal.roundHalfEven (Ideal.div v s))))

end Cert.Eq

end
-- ==== Proof.Eq.RefConv.lean ====
module

public import proofs.«01_k».proof.Proof.Eq.Spec
public import proofs.«01_k».proof.Proof.Gen.ReferenceIdeal.Skeleton

@[expose] public section

set_option maxRecDepth 16384

noncomputable section

namespace Cert.Eq

open Idealize.ShloMosaic Idealize.ShloMosaic.TcCoe Idealize.ShloMosaic.Tactic
open Cert.ReferenceIdeal Cert.ReferenceIdeal.Gen

/-- The padded input as the reference builds it. -/
def padded (v10 : Vec Ideal S4x7x8x1536 .i8) : FVec Ideal S4x9x10x1536 .bf16 :=
  have v11 : FVec Ideal S4x7x8x1536 .bf16 := sitofp .bf16 v10
  have v12 : Ideal .bf16 := Scalar.sitofp .bf16 0#32
  have v13 : FVec Ideal S4x1x8x1536 .bf16 := broadcast S4x1x8x1536 v12
  have v14 : FVec Ideal S4x8x8x1536 .bf16 := concatenate S4x8x8x1536 1 [⟨S4x1x8x1536, v13⟩, ⟨S4x7x8x1536, v11⟩] concatenates_S4x1x8x1536_S4x7x8x1536_S4x8x8x1536_d1
  have v15 : FVec Ideal S4x1x8x1536 .bf16 := broadcast S4x1x8x1536 v12
  have v16 : FVec Ideal S4x9x8x1536 .bf16 := concatenate S4x9x8x1536 1 [⟨S4x8x8x1536, v14⟩, ⟨S4x1x8x1536, v15⟩] concatenates_S4x8x8x1536_S4x1x8x1536_S4x9x8x1536_d1
  have v17 : FVec Ideal S4x9x1x1536 .bf16 := broadcast S4x9x1x1536 v12
  have v18 : FVec Ideal S4x9x9x1536 .bf16 := concatenate S4x9x9x1536 2 [⟨S4x9x1x1536, v17⟩, ⟨S4x9x8x1536, v16⟩] concatenates_S4x9x1x1536_S4x9x8x1536_S4x9x9x1536_d2
  have v19 : FVec Ideal S4x9x1x1536 .bf16 := broadcast S4x9x1x1536 v12
  have v20 : FVec Ideal S4x9x10x1536 .bf16 := concatenate S4x9x10x1536 2 [⟨S4x9x9x1536, v18⟩, ⟨S4x9x1x1536, v19⟩] concatenates_S4x9x9x1536_S4x9x1x1536_S4x9x10x1536_d2
  v20

/-- The padded input, index by index. -/
theorem padded_at (X : Vec Ideal S4x7x8x1536 .i8) (b : Fin 4) (h : Fin 9) (w : Fin 10) (ci : Fin 1536) :
    padded X (ix4 b h w ci) = px X b h.val w.val ci := by
  have hh := h.isLt
  have hw := w.isLt
  unfold px
  pointwise [padded]
  split_ifs <;> first | rfl | omega | (simp; done) | skip
  all_goals (rw [dif_pos (by omega)]; rfl)

/-- The nine shifted patches side by side. -/
def patches (v20 : FVec Ideal S4x9x10x1536 .bf16) : FVec Ideal S4x7x8x13824 .bf16 :=
  have v21 : FVec Ideal S4x7x8x1536 .bf16 := extractStridedSlice S4x7x8x1536 ![0, 0, 0, 0] v20 slices_S4x9x10x1536_o0_0_0_0_S4x7x8x1536
  have v22 : FVec Ideal S4x7x8x1536 .bf16 := extractStridedSlice S4x7x8x1536 ![0, 0, 1, 0] v20 slices_S4x9x10x1536_o0_0_1_0_S4x7x8x1536
  have v23 : FVec Ideal S4x7x8x1536 .bf16 := extractStridedSlice S4x7x8x1536 ![0, 0, 2, 0] v20 slices_S4x9x10x1536_o0_0_2_0_S4x7x8x1536
  have v24 : FVec Ideal S4x7x8x1536 .bf16 := extractStridedSlice S4x7x8x1536 ![0, 1, 0, 0] v20 slices_S4x9x10x1536_o0_1_0_0_S4x7x8x1536
  have v25 : FVec Ideal S4x7x8x1536 .bf16 := extractStridedSlice S4x7x8x1536 ![0, 1, 1, 0] v20 slices_S4x9x10x1536_o0_1_1_0_S4x7x8x1536
  have v26 : FVec Ideal S4x7x8x1536 .bf16 := extractStridedSlice S4x7x8x1536 ![0, 1, 2, 0] v20 slices_S4x9x10x1536_o0_1_2_0_S4x7x8x1536
  have v27 : FVec Ideal S4x7x8x1536 .bf16 := extractStridedSlice S4x7x8x1536 ![0, 2, 0, 0] v20 slices_S4x9x10x1536_o0_2_0_0_S4x7x8x1536
  have v28 : FVec Ideal S4x7x8x1536 .bf16 := extractStridedSlice S4x7x8x1536 ![0, 2, 1, 0] v20 slices_S4x9x10x1536_o0_2_1_0_S4x7x8x1536
  have v29 : FVec Ideal S4x7x8x1536 .bf16 := extractStridedSlice S4x7x8x1536 ![0, 2, 2, 0] v20 slices_S4x9x10x1536_o0_2_2_0_S4x7x8x1536
  have v30 : FVec Ideal S4x7x8x13824 .bf16 := concatenate S4x7x8x13824 3 [⟨S4x7x8x1536, v21⟩, ⟨S4x7x8x1536, v22⟩, ⟨S4x7x8x1536, v23⟩, ⟨S4x7x8x1536, v24⟩, ⟨S4x7x8x1536, v25⟩, ⟨S4x7x8x1536, v26⟩, ⟨S4x7x8x1536, v27⟩, ⟨S4x7x8x1536, v28⟩, ⟨S4x7x8x1536, v29⟩] concatenates_S4x7x8x1536_S4x7x8x1536_S4x7x8x1536_S4x7x8x1536_S4x7x8x1536_S4x7x8x1536_S4x7x8x1536_S4x7x8x1536_S4x7x8x1536_S4x7x8x13824_d3
  v30

/-- The reference's convolution, its padding and its patches named. -/
theorem pay1_eq (X : Vec Ideal S4x7x8x1536 .i8) (W : Vec Ideal S3x3x1536x2304 .i8) : k0_pay1 X W = shapeCast S4x7x8x2304 (matmul dot_S224x13824_S13824x2304_S224x2304_1_0_0_1_n_n none
    (shapeCast S224x13824 (patches (padded X)) shapeCasts_S4x7x8x13824_S224x13824) (shapeCast S13824x2304 (sitofp .bf16 W) shapeCasts_S3x3x1536x2304_S13824x2304)
    (constant S224x2304 .f32 0x00000000#32)) shapeCasts_S224x2304_S4x7x8x2304 := rfl

set_option maxHeartbeats 2000000 in
/-- A column of the patches, by its tap and its channel. -/
theorem patch_at (V : FVec Ideal S4x9x10x1536 .bf16) (b : Fin 4) (h : Fin 7) (w : Fin 8) (j : Fin 9) (ci : Fin 1536) :
    patches V (ix4 b h w ⟨j.val * 1536 + ci.val, by omega⟩) = V (ix4 b ⟨h.val + j.val / 3, by omega⟩ ⟨w.val + j.val % 3, by omega⟩ ci) := by
  have hc := ci.isLt
  unfold patches
  fin_cases j <;> pointwise
  all_goals
    repeat rw [dif_neg (by omega)]
  all_goals
    try rw [dif_pos (by omega)]
  all_goals exact congrArg V (ix4_eq (by first | omega | (dsimp only; omega)) (by first | omega | (dsimp only; omega)) (by first | omega | (dsimp only; omega)) (by first | omega | (dsimp only; omega)))

/-- The reference's convolution, index by index. -/
theorem conv_at (X : Vec Ideal S4x7x8x1536 .i8) (W : Vec Ideal S3x3x1536x2304 .i8) (b : Fin 4) (h : Fin 7) (w : Fin 8) (n : Fin 2304) : k0_pay1 X W (ix4 b h w n) = conv X W b h w n := by
  rw [pay1_eq]
  pointwise
  rw [Fin.sum_univ_tiles 9 1536 rfl]
  simp only [patch_at, padded_at]
  have e : ∀ j : Fin 9, (∑ x : Fin 1536, px X b (h.val + j.val / 3) (w.val + j.val % 3) x * (FloatOps.sitofp (F := Ideal) FTy.bf16
      (W (ix4 ⟨(j.val * 1536 + x.val) / 4608, by omega⟩ ⟨(j.val * 1536 + x.val) / 1536 % 3, by omega⟩ ⟨(j.val * 1536 + x.val) % 1536, by omega⟩ n)) : EReal))
      = tap X W ⟨j.val / 3, by omega⟩ ⟨j.val % 3, by omega⟩ b h w n := by
    intro j
    unfold tap
    refine Finset.sum_congr rfl fun x _ => ?_
    have h1 : (⟨(j.val * 1536 + x.val) / 4608, by omega⟩ : Fin 3) = ⟨j.val / 3, by omega⟩ := Fin.ext (by dsimp only; omega)
    have h2 : (⟨(j.val * 1536 + x.val) / 1536 % 3, by omega⟩ : Fin 3) = ⟨j.val % 3, by omega⟩ := Fin.ext (by dsimp only; omega)
    have h3 : (⟨(j.val * 1536 + x.val) % 1536, by omega⟩ : Fin 1536) = x := Fin.ext (by dsimp only; omega)
    rw [h1, h2, h3]
    rfl
  refine (Finset.sum_congr rfl fun j _ => e j).trans ?_
  rw [Fin.sum_univ_castSucc]
  simp only [Fin.sum_univ_eight]
  rfl

end Cert.Eq

end
-- ==== Proof.RI.Value.lean ====
/- The run of the reference, its result arrays named: `G12` … `G18` are the arrays its one grid point writes, as functions
   of the argument arrays, and `run` says the result arrays end at them and the argument arrays unchanged. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S4x7x8x2304.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S1x1.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 14).cut (grid0.coords t) ((dats m 0 c).after 14 t) = _
  rw [after0_14]

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S4x2304.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 15).cut (grid0.coords t) ((dats m 0 c).after 15 t) = _
  rw [after0_15]

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S4x2304.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 16).cut (grid0.coords t) ((dats m 0 c).after 16 t) = _
  rw [after0_16]

/-- The index map sends distinct grid points to distinct block indices (decided over the 1 point). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S4x1.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 17).cut (grid0.coords t) ((dats m 0 c).after 17 t) = _
  rw [after0_17]

/-- The index map sends distinct grid points to distinct block indices (decided over the 1 point). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S4x384.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 18).cut (grid0.coords t) ((dats m 0 c).after 18 t) = _
  rw [after0_18]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S4x1.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v0_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v0_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v0_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v0_6) = (dats m 0 c).arrAt 18 cfg0.N :=
  (h c).1 18

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 12 cfg0.N
      ∧ r.2.mem ((c : Thread nD τ).loc main_v0_1) = (dats m 0 c).arrAt 13 cfg0.N
      ∧ r.2.mem ((c : Thread nD τ).loc main_v0_2) = (dats m 0 c).arrAt 14 cfg0.N
      ∧ r.2.mem ((c : Thread nD τ).loc main_v0_3) = (dats m 0 c).arrAt 15 cfg0.N
      ∧ r.2.mem ((c : Thread nD τ).loc main_v0_4) = (dats m 0 c).arrAt 16 cfg0.N
      ∧ r.2.mem ((c : Thread nD τ).loc main_v0_5) = (dats m 0 c).arrAt 17 cfg0.N
      ∧ r.2.mem ((c : Thread nD τ).loc main_v0_6) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post12 m r h c,
      post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

/-! ## Closed form at one grid point: every window's block is its array -/

theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S4x7x8x1536.Idx) : ((cfg0.win 0).blk t).view.emb j = j := by
  obtain ⟨e0, e1, e2, e3⟩ := idx_zero0 t
  funext a; apply Fin.ext
  match a with
  | ⟨0, _⟩ => show win0_0.index t (0 : Fin 4) * 4 + 1 * (j 0).val = (j 0).val; omega
  | ⟨1, _⟩ => show win0_0.index t (1 : Fin 4) * 7 + 1 * (j 1).val = (j 1).val; omega
  | ⟨2, _⟩ => show win0_0.index t (2 : Fin 4) * 8 + 1 * (j 2).val = (j 2).val; omega
  | ⟨3, _⟩ => show win0_0.index t (3 : Fin 4) * 1536 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S4.Idx) : ((cfg0.win 1).blk t).view.emb j = j := by
  have e0 := idx_zero1 t
  funext a; apply Fin.ext
  match a with
  | ⟨0, _⟩ => show win0_1.index t (0 : Fin 1) * 4 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0, 0] : Fin 4 → Nat) = fun _ => 0 := funext fun a => by fin_cases a <;> rfl

/-- Window 2's block index at the one point is zero on every axis. -/
theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- An index of window 2's block is the same index of its array. -/
theorem emb2 (t : Fin cfg0.N) (j : S3x3x1536x2304.Idx) : ((cfg0.win 2).blk t).view.emb j = j := by
  obtain ⟨e0, e1, e2, e3⟩ := idx_zero2 t
  funext a; apply Fin.ext
  match a with
  | ⟨0, _⟩ => show win0_2.index t (0 : Fin 4) * 3 + 1 * (j 0).val = (j 0).val; omega
  | ⟨1, _⟩ => show win0_2.index t (1 : Fin 4) * 3 + 1 * (j 1).val = (j 1).val; omega
  | ⟨2, _⟩ => show win0_2.index t (2 : Fin 4) * 1536 + 1 * (j 2).val = (j 2).val; omega
  | ⟨3, _⟩ => show win0_2.index t (3 : Fin 4) * 2304 + 1 * (j 3).val = (j 3).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S2304.Idx) : ((cfg0.win 3).blk t).view.emb j = j := by
  have e0 := idx_zero3 t
  funext a; apply Fin.ext
  match a with
  | ⟨0, _⟩ => show win0_3.index t (0 : Fin 1) * 2304 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S2304.Idx) : ((cfg0.win 4).blk t).view.emb j = j := by
  have e0 := idx_zero4 t
  funext a; apply Fin.ext
  match a with
  | ⟨0, _⟩ => show win0_4.index t (0 : Fin 1) * 2304 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S2304.Idx) : ((cfg0.win 5).blk t).view.emb j = j := by
  have e0 := idx_zero5 t
  funext a; apply Fin.ext
  match a with
  | ⟨0, _⟩ => show win0_5.index t (0 : Fin 1) * 2304 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S2304x384.Idx) : ((cfg0.win 6).blk t).view.emb j = j := by
  obtain ⟨e0, e1⟩ := idx_zero6 t
  funext a; apply Fin.ext
  match a with
  | ⟨0, _⟩ => show win0_6.index t (0 : Fin 2) * 2304 + 1 * (j 0).val = (j 0).val; omega
  | ⟨1, _⟩ => show win0_6.index t (1 : Fin 2) * 384 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S384.Idx) : ((cfg0.win 7).blk t).view.emb j = j := by
  have e0 := idx_zero7 t
  funext a; apply Fin.ext
  match a with
  | ⟨0, _⟩ => show win0_7.index t (0 : Fin 1) * 384 + 1 * (j 0).val = (j 0).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S384.Idx) : ((cfg0.win 8).blk t).view.emb j = j := by
  have e0 := idx_zero8 t
  funext a; apply Fin.ext
  match a with
  | ⟨0, _⟩ => show win0_8.index t (0 : Fin 1) * 384 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S384x2304.Idx) : ((cfg0.win 9).blk t).view.emb j = j := by
  obtain ⟨e0, e1⟩ := idx_zero9 t
  funext a; apply Fin.ext
  match a with
  | ⟨0, _⟩ => show win0_9.index t (0 : Fin 2) * 384 + 1 * (j 0).val = (j 0).val; omega
  | ⟨1, _⟩ => show win0_9.index t (1 : Fin 2) * 2304 + 1 * (j 1).val = (j 1).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0] : Fin 1 → Nat) = fun _ => 0 := funext fun a => by fin_cases a <;> rfl

/-- Window 10's block index at the one point is zero on every axis. -/
theorem idx_zero10 : ∀ t : Fin cfg0.N, win0_10.index t (0 : Fin 1) = 0 :=
  (by decide +kernel : ∀ t : Fin grid0.N, _)

/-- An index of window 10's block is the same index of its array. -/
theorem emb10 (t : Fin cfg0.N) (j : S2304.Idx) : ((cfg0.win 10).blk t).view.emb j = j := by
  have e0 := idx_zero10 t
  funext a; apply Fin.ext
  match a with
  | ⟨0, _⟩ => show win0_10.index t (0 : Fin 1) * 2304 + 1 * (j 0).val = (j 0).val; omega

/-- Input window 10's block at the point is its array as the region finds it. -/
theorem iblk10_eq (c : Dev nD) (t : Fin cfg0.N) : iblk m c 10 t = V m c main_arg10 := by
  funext j; show V m c main_arg10 (((cfg0.win 10).blk t).view.emb j) = V m c main_arg10 j; rw [emb10]

theorem hz11 : (![0] : Fin 1 → Nat) = fun _ => 0 := funext fun a => by fin_cases a <;> rfl

/-- Window 11's block index at the one point is zero on every axis. -/
theorem idx_zero11 : ∀ t : Fin cfg0.N, win0_11.index t (0 : Fin 1) = 0 :=
  (by decide +kernel : ∀ t : Fin grid0.N, _)

/-- An index of window 11's block is the same index of its array. -/
theorem emb11 (t : Fin cfg0.N) (j : S2304.Idx) : ((cfg0.win 11).blk t).view.emb j = j := by
  have e0 := idx_zero11 t
  funext a; apply Fin.ext
  match a with
  | ⟨0, _⟩ => show win0_11.index t (0 : Fin 1) * 2304 + 1 * (j 0).val = (j 0).val; omega

/-- Input window 11's block at the point is its array as the region finds it. -/
theorem iblk11_eq (c : Dev nD) (t : Fin cfg0.N) : iblk m c 11 t = V m c main_arg11 := by
  funext j; show V m c main_arg11 (((cfg0.win 11).blk t).view.emb j) = V m c main_arg11 j; rw [emb11]

theorem hz12 : (![0, 0, 0, 0] : Fin 4 → Nat) = fun _ => 0 := funext fun a => by fin_cases a <;> rfl

/-- Window 12's block index at the one point is zero on every axis. -/
theorem idx_zero12 : ∀ t : Fin cfg0.N, win0_12.index t (0 : Fin 4) = 0 ∧ win0_12.index t (1 : Fin 4) = 0 ∧ win0_12.index t (2 : Fin 4) = 0 ∧ win0_12.index t (3 : Fin 4) = 0 :=
  (by decide +kernel : ∀ t : Fin grid0.N, _)

/-- An index of window 12's block is the same index of its array. -/
theorem emb12 (t : Fin cfg0.N) (j : S4x7x8x2304.Idx) : ((cfg0.win 12).blk t).view.emb j = j := by
  obtain ⟨e0, e1, e2, e3⟩ := idx_zero12 t
  funext a; apply Fin.ext
  match a with
  | ⟨0, _⟩ => show win0_12.index t (0 : Fin 4) * 4 + 1 * (j 0).val = (j 0).val; omega
  | ⟨1, _⟩ => show win0_12.index t (1 : Fin 4) * 7 + 1 * (j 1).val = (j 1).val; omega
  | ⟨2, _⟩ => show win0_12.index t (2 : Fin 4) * 8 + 1 * (j 2).val = (j 2).val; omega
  | ⟨3, _⟩ => show win0_12.index t (3 : Fin 4) * 2304 + 1 * (j 3).val = (j 3).val; omega

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S1x1.Idx) : ((cfg0.win 13).blk t).view.emb j = j := by
  obtain ⟨e0, e1⟩ := idx_zero13 t
  funext a; apply Fin.ext
  match a with
  | ⟨0, _⟩ => show win0_13.index t (0 : Fin 2) * 1 + 1 * (j 0).val = (j 0).val; omega
  | ⟨1, _⟩ => show win0_13.index t (1 : Fin 2) * 1 + 1 * (j 1).val = (j 1).val; omega

theorem hz14 : (![0, 0] : Fin 2 → Nat) = fun _ => 0 := funext fun a => by fin_cases a <;> rfl

/-- Window 14's block index at the one point is zero on every axis. -/
theorem idx_zero14 : ∀ t : Fin cfg0.N, win0_14.index t (0 : Fin 2) = 0 ∧ win0_14.index t (1 : Fin 2) = 0 :=
  (by decide +kernel : ∀ t : Fin grid0.N, _)

/-- An index of window 14's block is the same index of its array. -/
theorem emb14 (t : Fin cfg0.N) (j : S4x2304.Idx) : ((cfg0.win 14).blk t).view.emb j = j := by
  obtain ⟨e0, e1⟩ := idx_zero14 t
  funext a; apply Fin.ext
  match a with
  | ⟨0, _⟩ => show win0_14.index t (0 : Fin 2) * 4 + 1 * (j 0).val = (j 0).val; omega
  | ⟨1, _⟩ => show win0_14.index t (1 : Fin 2) * 2304 + 1 * (j 1).val = (j 1).val; omega

theorem hz15 : (![0, 0] : Fin 2 → Nat) = fun _ => 0 := funext fun a => by fin_cases a <;> rfl

/-- Window 15's block index at the one point is zero on every axis. -/
theorem idx_zero15 : ∀ t : Fin cfg0.N, win0_15.index t (0 : Fin 2) = 0 ∧ win0_15.index t (1 : Fin 2) = 0 :=
  (by decide +kernel : ∀ t : Fin grid0.N, _)

/-- An index of window 15's block is the same index of its array. -/
theorem emb15 (t : Fin cfg0.N) (j : S4x2304.Idx) : ((cfg0.win 15).blk t).view.emb j = j := by
  obtain ⟨e0, e1⟩ := idx_zero15 t
  funext a; apply Fin.ext
  match a with
  | ⟨0, _⟩ => show win0_15.index t (0 : Fin 2) * 4 + 1 * (j 0).val = (j 0).val; omega
  | ⟨1, _⟩ => show win0_15.index t (1 : Fin 2) * 2304 + 1 * (j 1).val = (j 1).val; omega

theorem hz16 : (![0, 0] : Fin 2 → Nat) = fun _ => 0 := funext fun a => by fin_cases a <;> rfl

/-- Window 16's block index at the one point is zero on every axis. -/
theorem idx_zero16 : ∀ t : Fin cfg0.N, win0_16.index t (0 : Fin 2) = 0 ∧ win0_16.index t (1 : Fin 2) = 0 :=
  (by decide +kernel : ∀ t : Fin grid0.N, _)

/-- An index of window 16's block is the same index of its array. -/
theorem emb16 (t : Fin cfg0.N) (j : S4x1.Idx) : ((cfg0.win 16).blk t).view.emb j = j := by
  obtain ⟨e0, e1⟩ := idx_zero16 t
  funext a; apply Fin.ext
  match a with
  | ⟨0, _⟩ => show win0_16.index t (0 : Fin 2) * 4 + 1 * (j 0).val = (j 0).val; omega
  | ⟨1, _⟩ => show win0_16.index t (1 : Fin 2) * 1 + 1 * (j 1).val = (j 1).val; omega

theorem hz17 : (![0, 0] : Fin 2 → Nat) = fun _ => 0 := funext fun a => by fin_cases a <;> rfl

/-- Window 17's block index at the one point is zero on every axis. -/
theorem idx_zero17 : ∀ t : Fin cfg0.N, win0_17.index t (0 : Fin 2) = 0 ∧ win0_17.index t (1 : Fin 2) = 0 :=
  (by decide +kernel : ∀ t : Fin grid0.N, _)

/-- An index of window 17's block is the same index of its array. -/
theorem emb17 (t : Fin cfg0.N) (j : S4x384.Idx) : ((cfg0.win 17).blk t).view.emb j = j := by
  obtain ⟨e0, e1⟩ := idx_zero17 t
  funext a; apply Fin.ext
  match a with
  | ⟨0, _⟩ => show win0_17.index t (0 : Fin 2) * 4 + 1 * (j 0).val = (j 0).val; omega
  | ⟨1, _⟩ => show win0_17.index t (1 : Fin 2) * 384 + 1 * (j 1).val = (j 1).val; omega

theorem hz18 : (![0, 0] : Fin 2 → Nat) = fun _ => 0 := funext fun a => by fin_cases a <;> rfl

/-- Window 18's block index at the one point is zero on every axis. -/
theorem idx_zero18 : ∀ t : Fin cfg0.N, win0_18.index t (0 : Fin 2) = 0 ∧ win0_18.index t (1 : Fin 2) = 0 :=
  (by decide +kernel : ∀ t : Fin grid0.N, _)

/-- An index of window 18's block is the same index of its array. -/
theorem emb18 (t : Fin cfg0.N) (j : S4x1.Idx) : ((cfg0.win 18).blk t).view.emb j = j := by
  obtain ⟨e0, e1⟩ := idx_zero18 t
  funext a; apply Fin.ext
  match a with
  | ⟨0, _⟩ => show win0_18.index t (0 : Fin 2) * 4 + 1 * (j 0).val = (j 0).val; omega
  | ⟨1, _⟩ => show win0_18.index t (1 : Fin 2) * 1 + 1 * (j 1).val = (j 1).val; omega

/-! ### Output window 12: the array after the run -/

/-- What the window's array ends holding: `out0_12` applied to the argument arrays in place of the input blocks (a value that the
    frame states apart, `kK_payN a…`, keeps its loads inside its own definition). -/
abbrev G12 (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : Vec F S4x7x8x2304 .i8 :=
  k0_pay16 a11 (k0_pay23 a0 a1 a2 a3 a4 a5 a6 a7 a8 a9 a10 a11) (k0_pay26 a0 a1 a2 a3 a4 a5 a6 a7 a8 a9 a10 a11)

/-- A load of the whole of a block reads the block, and the one store through the whole rectangle leaves its payload. -/
theorem out12_eq (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : out0_12 (F := F) a0 a1 a2 a3 a4 a5 a6 a7 a8 a9 a10 a11 = G12 a0 a1 a2 a3 a4 a5 a6 a7 a8 a9 a10 a11 := by
  unfold out0_12
  rw [View.canon_unit_zero hz12, View.ld_unit_zero (S := S2304) hz11 _ a11]

/-- Cutting the point's block out of `X` and reading `X` through the block's view give the same. -/
theorem cut12_eq (t : Fin cfg0.N) (X : Vec F S4x7x8x2304 .i8) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq, iblk9_eq, iblk10_eq, iblk11_eq]
  exact cut12_eq t _

/-- Every index of the array is in the point's block. -/
theorem covered12 (i : S4x7x8x2304.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 12 (G12 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed12_eq m c t) covered12).trans (by rw [V_main_arg0, V_main_arg1, V_main_arg2, V_main_arg3, V_main_arg4, V_main_arg5, V_main_arg6, V_main_arg7, V_main_arg8, V_main_arg9, V_main_arg10, V_main_arg11])

/-! ### Output window 13: the array after the run -/

/-- What the window's array ends holding: `out0_13` applied to the argument arrays in place of the input blocks (a value that the
    frame states apart, `kK_payN a…`, keeps its loads inside its own definition). -/
abbrev G13 (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : Vec F S1x1 .f32 :=
  k0_pay17 a11 (k0_pay23 a0 a1 a2 a3 a4 a5 a6 a7 a8 a9 a10 a11) (k0_pay26 a0 a1 a2 a3 a4 a5 a6 a7 a8 a9 a10 a11)

/-- A load of the whole of a block reads the block, and the one store through the whole rectangle leaves its payload. -/
theorem out13_eq (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : out0_13 (F := F) a0 a1 a2 a3 a4 a5 a6 a7 a8 a9 a10 a11 = G13 a0 a1 a2 a3 a4 a5 a6 a7 a8 a9 a10 a11 := by
  unfold out0_13
  rw [View.canon_unit_zero hz13, View.ld_unit_zero (S := S2304) hz11 _ a11]

/-- Cutting the point's block out of `X` and reading `X` through the block's view give the same. -/
theorem cut13_eq (t : Fin cfg0.N) (X : Vec F S1x1 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq, iblk9_eq, iblk10_eq, iblk11_eq]
  exact cut13_eq t _

/-- Every index of the array is in the point's block. -/
theorem covered13 (i : S1x1.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 13 (G13 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed13_eq m c t) covered13).trans (by rw [V_main_arg0, V_main_arg1, V_main_arg2, V_main_arg3, V_main_arg4, V_main_arg5, V_main_arg6, V_main_arg7, V_main_arg8, V_main_arg9, V_main_arg10, V_main_arg11])

/-! ### Output window 14: the array after the run -/

/-- What the window's array ends holding: `out0_14` applied to the argument arrays in place of the input blocks (a value that the
    frame states apart, `kK_payN a…`, keeps its loads inside its own definition). -/
abbrev G14 (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : Vec F S4x2304 .f32 :=
  k0_pay13 a11 (k0_pay26 a0 a1 a2 a3 a4 a5 a6 a7 a8 a9 a10 a11)

/-- A load of the whole of a block reads the block, and the one store through the whole rectangle leaves its payload. -/
theorem out14_eq (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : out0_14 (F := F) a0 a1 a2 a3 a4 a5 a6 a7 a8 a9 a10 a11 = G14 a0 a1 a2 a3 a4 a5 a6 a7 a8 a9 a10 a11 := by
  unfold out0_14
  rw [View.canon_unit_zero hz14, View.ld_unit_zero (S := S2304) hz11 _ a11]

/-- Cutting the point's block out of `X` and reading `X` through the block's view give the same. -/
theorem cut14_eq (t : Fin cfg0.N) (X : Vec F S4x2304 .f32) :
    (cfg0.win 14).cut (grid0.coords t) X = ((cfg0.win 14).blk t).view.read (Elt F) X := by
  funext j
  show X j = X (((cfg0.win 14).blk t).view.emb j)
  rw [emb14]

/-- WHAT THE POINT WRITES BACK is its block of `G14` of the argument arrays as the region finds them. -/
theorem flushed14_eq (c : Dev nD) (t : Fin cfg0.N) :
    (dats m 0 c).flushed 14 t = ((cfg0.win 14).blk t).view.read (Elt F) (G14 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 14).cut (grid0.coords t) ((dats m 0 c).after 14 t) = _
  rw [after0_14, out14_eq, iblk0_eq, iblk1_eq, iblk2_eq, iblk3_eq, iblk4_eq, iblk5_eq, iblk6_eq, iblk7_eq, iblk8_eq, iblk9_eq, iblk10_eq, iblk11_eq]
  exact cut14_eq t _

/-- Every index of the array is in the point's block. -/
theorem covered14 (i : S4x2304.Idx) :
    ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- THE ARRAY after the run: `G14` of the argument arrays as launched. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 14 (G14 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed14_eq m c t) covered14).trans (by rw [V_main_arg0, V_main_arg1, V_main_arg2, V_main_arg3, V_main_arg4, V_main_arg5, V_main_arg6, V_main_arg7, V_main_arg8, V_main_arg9, V_main_arg10, V_main_arg11])

/-! ### Output window 15: the array after the run -/

/-- What the window's array ends holding: `out0_15` applied to the argument arrays in place of the input blocks (a value that the
    frame states apart, `kK_payN a…`, keeps its loads inside its own definition). -/
abbrev G15 (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : Vec F S4x2304 .fp8e4m3 :=
  k0_pay25 a0 a1 a2 a3 a4 a5 a6 a7 a8 a9 a10 a11

/-- The one store through the whole rectangle leaves its payload. -/
theorem out15_eq (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : out0_15 (F := F) a0 a1 a2 a3 a4 a5 a6 a7 a8 a9 a10 a11 = G15 a0 a1 a2 a3 a4 a5 a6 a7 a8 a9 a10 a11 := by
  unfold out0_15
  rw [View.canon_unit_zero hz15]

/-- Cutting the point's block out of `X` and reading `X` through the block's view give the same. -/
theorem cut15_eq (t : Fin cfg0.N) (X : Vec F S4x2304 .fp8e4m3) :
    (cfg0.win 15).cut (grid0.coords t) X = ((cfg0.win 15).blk t).view.read (Elt F) X := by
  funext j
  show X j = X (((cfg0.win 15).blk t).view.emb j)
  rw [emb15]

/-- WHAT THE POINT WRITES BACK is its block of `G15` of the argument arrays as the region finds them. -/
theorem flushed15_eq (c : Dev nD) (t : Fin cfg0.N) :
    (dats m 0 c).flushed 15 t = ((cfg0.win 15).blk t).view.read (Elt F) (G15 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 15).cut (grid0.coords t) ((dats m 0 c).after 15 t) = _
  rw [after0_15, out15_eq, iblk0_eq, iblk1_eq, iblk2_eq, iblk3_eq, iblk4_eq, iblk5_eq, iblk6_eq, iblk7_eq, iblk8_eq, iblk9_eq, iblk10_eq, iblk11_eq]
  exact cut15_eq t _

/-- Every index of the array is in the point's block. -/
theorem covered15 (i : S4x2304.Idx) :
    ∃ t : Fin cfg0.N, (cfg0.win 15).flush t = true ∧ i ∈ ((cfg0.win 15).blk t).view.set :=
  ⟨(⟨0, by decide⟩ : Fin cfg0.N), flush0_15 _, by have h := ((cfg0.win 15).blk (⟨0, by decide⟩ : Fin cfg0.N)).view.emb_mem_set i; rwa [emb15] at h⟩

/-- THE ARRAY after the run: `G15` of the argument arrays as launched. -/
theorem final15 (c : Dev nD) : (dats m 0 c).arrAt 15 cfg0.N = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 15 (G15 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed15_eq m c t) covered15).trans (by rw [V_main_arg0, V_main_arg1, V_main_arg2, V_main_arg3, V_main_arg4, V_main_arg5, V_main_arg6, V_main_arg7, V_main_arg8, V_main_arg9, V_main_arg10, V_main_arg11])

/-! ### Output window 16: the array after the run -/

/-- What the window's array ends holding: `out0_16` applied to the argument arrays in place of the input blocks (a value that the
    frame states apart, `kK_payN a…`, keeps its loads inside its own definition). -/
abbrev G16 (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : Vec F S4x1 .f32 :=
  k0_pay18 (k0_pay24 a0 a1 a2 a3 a4 a5 a6 a7 a8 a9 a10 a11)

/-- The one store through the whole rectangle leaves its payload. -/
theorem out16_eq (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : out0_16 (F := F) a0 a1 a2 a3 a4 a5 a6 a7 a8 a9 a10 a11 = G16 a0 a1 a2 a3 a4 a5 a6 a7 a8 a9 a10 a11 := by
  unfold out0_16
  rw [View.canon_unit_zero hz16]

/-- Cutting the point's block out of `X` and reading `X` through the block's view give the same. -/
theorem cut16_eq (t : Fin cfg0.N) (X : Vec F S4x1 .f32) :
    (cfg0.win 16).cut (grid0.coords t) X = ((cfg0.win 16).blk t).view.read (Elt F) X := by
  funext j
  show X j = X (((cfg0.win 16).blk t).view.emb j)
  rw [emb16]

/-- WHAT THE POINT WRITES BACK is its block of `G16` of the argument arrays as the region finds them. -/
theorem flushed16_eq (c : Dev nD) (t : Fin cfg0.N) :
    (dats m 0 c).flushed 16 t = ((cfg0.win 16).blk t).view.read (Elt F) (G16 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 16).cut (grid0.coords t) ((dats m 0 c).after 16 t) = _
  rw [after0_16, out16_eq, iblk0_eq, iblk1_eq, iblk2_eq, iblk3_eq, iblk4_eq, iblk5_eq, iblk6_eq, iblk7_eq, iblk8_eq, iblk9_eq, iblk10_eq, iblk11_eq]
  exact cut16_eq t _

/-- Every index of the array is in the point's block. -/
theorem covered16 (i : S4x1.Idx) :
    ∃ t : Fin cfg0.N, (cfg0.win 16).flush t = true ∧ i ∈ ((cfg0.win 16).blk t).view.set :=
  ⟨(⟨0, by decide⟩ : Fin cfg0.N), flush0_16 _, by have h := ((cfg0.win 16).blk (⟨0, by decide⟩ : Fin cfg0.N)).view.emb_mem_set i; rwa [emb16] at h⟩

/-- THE ARRAY after the run: `G16` of the argument arrays as launched. -/
theorem final16 (c : Dev nD) : (dats m 0 c).arrAt 16 cfg0.N = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 16 (G16 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed16_eq m c t) covered16).trans (by rw [V_main_arg0, V_main_arg1, V_main_arg2, V_main_arg3, V_main_arg4, V_main_arg5, V_main_arg6, V_main_arg7, V_main_arg8, V_main_arg9, V_main_arg10, V_main_arg11])

/-! ### Output window 17: the array after the run -/

/-- What the window's array ends holding: `out0_17` applied to the argument arrays in place of the input blocks (a value that the
    frame states apart, `kK_payN a…`, keeps its loads inside its own definition). -/
abbrev G17 (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : Vec F S4x384 .fp8e4m3 :=
  k0_pay11 a6 a7 a8 (k0_pay24 a0 a1 a2 a3 a4 a5 a6 a7 a8 a9 a10 a11) (k0_pay25 a0 a1 a2 a3 a4 a5 a6 a7 a8 a9 a10 a11) (k0_pay22 a0 a1 a2 a3 a4 a5 a6 a7 a8 a9 a10 a11)

/-- A load of the whole of a block reads the block, and the one store through the whole rectangle leaves its payload. -/
theorem out17_eq (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : out0_17 (F := F) a0 a1 a2 a3 a4 a5 a6 a7 a8 a9 a10 a11 = G17 a0 a1 a2 a3 a4 a5 a6 a7 a8 a9 a10 a11 := by
  unfold out0_17
  rw [View.canon_unit_zero hz17, View.ld_unit_zero (S := S2304x384) hz6 _ a6, View.ld_unit_zero (S := S384) hz7 _ a7, View.ld_unit_zero (S := S384) hz8 _ a8]

/-- Cutting the point's block out of `X` and reading `X` through the block's view give the same. -/
theorem cut17_eq (t : Fin cfg0.N) (X : Vec F S4x384 .fp8e4m3) :
    (cfg0.win 17).cut (grid0.coords t) X = ((cfg0.win 17).blk t).view.read (Elt F) X := by
  funext j
  show X j = X (((cfg0.win 17).blk t).view.emb j)
  rw [emb17]

/-- WHAT THE POINT WRITES BACK is its block of `G17` of the argument arrays as the region finds them. -/
theorem flushed17_eq (c : Dev nD) (t : Fin cfg0.N) :
    (dats m 0 c).flushed 17 t = ((cfg0.win 17).blk t).view.read (Elt F) (G17 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 17).cut (grid0.coords t) ((dats m 0 c).after 17 t) = _
  rw [after0_17, out17_eq, iblk0_eq, iblk1_eq, iblk2_eq, iblk3_eq, iblk4_eq, iblk5_eq, iblk6_eq, iblk7_eq, iblk8_eq, iblk9_eq, iblk10_eq, iblk11_eq]
  exact cut17_eq t _

/-- Every index of the array is in the point's block. -/
theorem covered17 (i : S4x384.Idx) :
    ∃ t : Fin cfg0.N, (cfg0.win 17).flush t = true ∧ i ∈ ((cfg0.win 17).blk t).view.set :=
  ⟨(⟨0, by decide⟩ : Fin cfg0.N), flush0_17 _, by have h := ((cfg0.win 17).blk (⟨0, by decide⟩ : Fin cfg0.N)).view.emb_mem_set i; rwa [emb17] at h⟩

/-- THE ARRAY after the run: `G17` of the argument arrays as launched. -/
theorem final17 (c : Dev nD) : (dats m 0 c).arrAt 17 cfg0.N = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 17 (G17 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed17_eq m c t) covered17).trans (by rw [V_main_arg0, V_main_arg1, V_main_arg2, V_main_arg3, V_main_arg4, V_main_arg5, V_main_arg6, V_main_arg7, V_main_arg8, V_main_arg9, V_main_arg10, V_main_arg11])

/-! ### Output window 18: the array after the run -/

/-- What the window's array ends holding: `out0_18` applied to the argument arrays in place of the input blocks (a value that the
    frame states apart, `kK_payN a…`, keeps its loads inside its own definition). -/
abbrev G18 (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : Vec F S4x1 .f32 :=
  k0_pay19 (k0_pay10 a6 a7 a8 (k0_pay24 a0 a1 a2 a3 a4 a5 a6 a7 a8 a9 a10 a11) (k0_pay25 a0 a1 a2 a3 a4 a5 a6 a7 a8 a9 a10 a11) (k0_pay22 a0 a1 a2 a3 a4 a5 a6 a7 a8 a9 a10 a11))

/-- A load of the whole of a block reads the block, and the one store through the whole rectangle leaves its payload. -/
theorem out18_eq (a0 : Vec F S4x7x8x1536 .i8) (a1 : Vec F S4 .f32) (a2 : Vec F S3x3x1536x2304 .i8) (a3 : Vec F S2304 .f32) (a4 : Vec F S2304 .f32) (a5 : Vec F S2304 .f32) (a6 : Vec F S2304x384 .fp8e4m3) (a7 : Vec F S384 .f32) (a8 : Vec F S384 .f32) (a9 : Vec F S384x2304 .fp8e4m3) (a10 : Vec F S2304 .f32) (a11 : Vec F S2304 .f32) : out0_18 (F := F) a0 a1 a2 a3 a4 a5 a6 a7 a8 a9 a10 a11 = G18 a0 a1 a2 a3 a4 a5 a6 a7 a8 a9 a10 a11 := by
  unfold out0_18
  rw [View.canon_unit_zero hz18, View.ld_unit_zero (S := S2304x384) hz6 _ a6, View.ld_unit_zero (S := S384) hz7 _ a7, View.ld_unit_zero (S := S384) hz8 _ a8]

/-- Cutting the point's block out of `X` and reading `X` through the block's view give the same. -/
theorem cut18_eq (t : Fin cfg0.N) (X : Vec F S4x1 .f32) :
    (cfg0.win 18).cut (grid0.coords t) X = ((cfg0.win 18).blk t).view.read (Elt F) X := by
  funext j
  show X j = X (((cfg0.win 18).blk t).view.emb j)
  rw [emb18]

/-- WHAT THE POINT WRITES BACK is its block of `G18` of the argument arrays as the region finds them. -/
theorem flushed18_eq (c : Dev nD) (t : Fin cfg0.N) :
    (dats m 0 c).flushed 18 t = ((cfg0.win 18).blk t).view.read (Elt F) (G18 (V m c main_arg0) (V m c main_arg1) (V m c main_arg2) (V m c main_arg3) (V m c main_arg4) (V m c main_arg5) (V m c main_arg6) (V m c main_arg7) (V m c main_arg8) (V m c main_arg9) (V m c main_arg10) (V m c main_arg11)) := by
  show (cfg0.win 18).cut (grid0.coords t) ((dats m 0 c).after 18 t) = _
  rw [after0_18, out18_eq, iblk0_eq, iblk1_eq, iblk2_eq, iblk3_eq, iblk4_eq, iblk5_eq, iblk6_eq, iblk7_eq, iblk8_eq, iblk9_eq, iblk10_eq, iblk11_eq]
  exact cut18_eq t _

/-- Every index of the array is in the point's block. -/
theorem covered18 (i : S4x1.Idx) :
    ∃ t : Fin cfg0.N, (cfg0.win 18).flush t = true ∧ i ∈ ((cfg0.win 18).blk t).view.set :=
  ⟨(⟨0, by decide⟩ : Fin cfg0.N), flush0_18 _, by have h := ((cfg0.win 18).blk (⟨0, by decide⟩ : Fin cfg0.N)).view.emb_mem_set i; rwa [emb18] at h⟩

/-- THE ARRAY after the run: `G18` of the argument arrays as launched. -/
theorem final18 (c : Dev nD) : (dats m 0 c).arrAt 18 cfg0.N = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ((dats m 0 c).arrAt_eq_of_cover 18 (G18 (V m c main_arg0) (V m c main_arg1) (V m c main_arg2) (V m c main_arg3) (V m c main_arg4) (V m c main_arg5) (V m c main_arg6) (V m c main_arg7) (V m c main_arg8) (V m c main_arg9) (V m c main_arg10) (V m c main_arg11)) (fun t _ => flushed18_eq m c t) covered18).trans (by rw [V_main_arg0, V_main_arg1, V_main_arg2, V_main_arg3, V_main_arg4, V_main_arg5, V_main_arg6, V_main_arg7, V_main_arg8, V_main_arg9, V_main_arg10, V_main_arg11])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_1) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_2) = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_3) = G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_4) = G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_5) = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v0_6) = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(post12 m r h c).trans (final12 m c),
      (post13 m r h c).trans (final13 m c),
      (post14 m r h c).trans (final14 m c),
      (post15 m r h c).trans (final15 m c),
      (post16 m r h c).trans (final16 m c),
      (post17 m r h c).trans (final17 m c),
      (post18 m r h c).trans (final18 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.ReferenceIdeal.Value

end
-- ==== Proof.Eq.RefAll.lean ====
module

public import proofs.«01_k».proof.Proof.Eq.Spec2
public import proofs.«01_k».proof.Proof.Eq.RefConv
public import proofs.«01_k».proof.Proof.RI.Value

@[expose] public section

set_option maxRecDepth 16384

noncomputable section

namespace Cert.Eq

open Idealize.ShloMosaic Idealize.ShloMosaic.TcCoe Idealize.ShloMosaic.Tactic
open Cert.ReferenceIdeal Cert.ReferenceIdeal.Gen Cert.ReferenceIdeal.Value

/-- The indexes over the two middle axes of a rank-four array. -/
theorem fiber12 {n0 n1 n2 n3 : Nat} (h : (⟨4, ![n0, n1, n2, n3]⟩ : Shape).Reduces [1, 2] (⟨2, ![n0, n3]⟩ : Shape)) (b : Fin n0) (n : Fin n3) (i : (⟨4, ![n0, n1, n2, n3]⟩ : Shape).Idx) :
    h.drop i = ix2 b n ↔ ∃ k : Fin n1 × Fin n2, ix4 b k.1 k.2 n = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨k, rfl⟩
    funext c
    apply Fin.ext
    match c with
    | ⟨0, _⟩ => rfl
    | ⟨1, _⟩ => rfl

/-- A sum over the two middle axes. -/
theorem sum12 {n0 n1 n2 n3 : Nat} (h : (⟨4, ![n0, n1, n2, n3]⟩ : Shape).Reduces [1, 2] (⟨2, ![n0, n3]⟩ : Shape)) (v : (⟨4, ![n0, n1, n2, n3]⟩ : Shape).Idx → EReal) (b : Fin n0) (n : Fin n3) :
    Ideal.reduceAdd h v (ix2 b n) = ∑ y : Fin n1, ∑ x : Fin n2, v (ix4 b y x n) := by
  refine (Finset.sum_filter_eq_sum_of_fiber _ (fun k : Fin n1 × Fin n2 => ix4 b k.1 k.2 n)
    (fun _ _ e => Prod.ext (congrFun e 1) (congrFun e 2)) (fiber12 h b n) v).trans ?_
  simp only [Fintype.sum_prod_type]

/-- The indexes over all axes but the first. -/
theorem fiber1234 {n1 n2 n3 n4 : Nat} (h : (⟨5, ![1, n1, n2, n3, n4]⟩ : Shape).Reduces [1, 2, 3, 4] (⟨1, ![1]⟩ : Shape)) (j : (⟨1, ![1]⟩ : Shape).Idx) (i : (⟨5, ![1, n1, n2, n3, n4]⟩ : Shape).Idx) :
    h.drop i = j ↔ ∃ k : Fin n1 × Fin n2 × Fin n3 × Fin n4, ix5 (0 : Fin 1) k.1 k.2.1 k.2.2.1 k.2.2.2 = i := by
  constructor
  · intro e
    refine ⟨(i 1, i 2, i 3, i 4), ?_⟩
    funext a; apply Fin.ext
    match a with
    | ⟨0, _⟩ => have : (i 0).val < 1 := (i 0).isLt; show 0 = (i 0).val; omega
    | ⟨1, _⟩ => rfl
    | ⟨2, _⟩ => rfl
    | ⟨3, _⟩ => rfl
    | ⟨4, _⟩ => rfl
  · intro _
    funext c
    apply Fin.ext
    match c with
    | ⟨0, h0⟩ =>
      have h1 : (h.drop i ⟨0, h0⟩).val < 1 := (h.drop i ⟨0, h0⟩).isLt
      have h2 : (j ⟨0, h0⟩).val < 1 := (j ⟨0, h0⟩).isLt
      omega

/-- A largest value over all axes but the first. -/
theorem fold1234 {n1 n2 n3 n4 : Nat} (h : (⟨5, ![1, n1, n2, n3, n4]⟩ : Shape).Reduces [1, 2, 3, 4] (⟨1, ![1]⟩ : Shape)) (v : (⟨5, ![1, n1, n2, n3, n4]⟩ : Shape).Idx → EReal) (c : EReal) (j : (⟨1, ![1]⟩ : Shape).Idx) :
    (Finset.univ.filter (fun i => h.drop i = j)).fold max c v = (Finset.univ : Finset (Fin n1 × Fin n2 × Fin n3 × Fin n4)).fold max c fun k => v (ix5 (0 : Fin 1) k.1 k.2.1 k.2.2.1 k.2.2.2) :=
  Finset.fold_filter_eq_fold_of_fiber max _ (fun k : Fin n1 × Fin n2 × Fin n3 × Fin n4 => ix5 (0 : Fin 1) k.1 k.2.1 k.2.2.1 k.2.2.2)
    (fun _ _ e => Prod.ext (congrFun e 1) (Prod.ext (congrFun e 2) (Prod.ext (congrFun e 3) (congrFun e 4)))) (fiber1234 h j) c v

section

variable (a0 : Vec Ideal S4x7x8x1536 .i8) (a1 : Vec Ideal S4 .f32) (a2 : Vec Ideal S3x3x1536x2304 .i8) (a3 a4 a5 : Vec Ideal S2304 .f32)
  (a6 : Vec Ideal S2304x384 .fp8e4m3) (a7 a8 : Vec Ideal S384 .f32) (a9 : Vec Ideal S384x2304 .fp8e4m3) (a10 a11 : Vec Ideal S2304 .f32)

/-- The reference's convolution as one of its values. -/
theorem r20 (b : Fin 4) (h : Fin 7) (w : Fin 8) (n : Fin 2304) : k0_pay20 a0 a1 a2 a3 a4 a5 a6 a7 a8 a9 a10 a11 (ix4 b h w n) = conv a0 a2 b h w n := by
  unfold k0_pay20
  rw [View.ld_unit_zero (by decide), View.ld_unit_zero (by decide)]
  exact conv_at a0 a2 b h w n

/-- The activation, over any convolution. -/
theorem r3 (A : FVec Ideal S4x7x8x2304 .f32) (hA : ∀ b h w n, A (ix4 b h w n) = conv a0 a2 b h w n) (b : Fin 4) (h : Fin 7) (w : Fin 8) (n : Fin 2304) :
    k0_pay3 a3 a4 a5 A (k0_pay2 a1) (ix4 b h w n) = aS a0 a1 a2 a3 a4 a5 b h w n := by
  pointwise [k0_pay3, k0_pay2]
  rw [hA]
  rfl

/-- The means. -/
theorem r4 (A : FVec Ideal S4x7x8x2304 .f32) (hA : ∀ b h w n, A (ix4 b h w n) = conv a0 a2 b h w n) (b : Fin 4) (n : Fin 2304) :
    k0_pay4 a3 a4 a5 A (k0_pay2 a1) (ix2 b n) = pS a0 a1 a2 a3 a4 a5 b n := by
  pointwise [k0_pay4]
  rw [sum12]
  simp only [r3 a0 a1 a2 a3 a4 a5 A hA]
  rfl

/-- The exponent of the first scale. -/
theorem r5 (A : FVec Ideal S4x7x8x2304 .f32) (hA : ∀ b h w n, A (ix4 b h w n) = conv a0 a2 b h w n) (b : Fin 4) :
    k0_pay5 a3 a4 a5 A (k0_pay2 a1) (ix1 b) = vexpS (pS a0 a1 a2 a3 a4 a5 b) := by
  pointwise [k0_pay5]
  simp only [r4 a0 a1 a2 a3 a4 a5 A hA]
  rfl

/-- The first scale. -/
theorem r6 (A : FVec Ideal S4x7x8x2304 .f32) (hA : ∀ b h w n, A (ix4 b h w n) = conv a0 a2 b h w n) (b : Fin 4) :
    k0_pay6 a3 a4 a5 A (k0_pay2 a1) (ix1 b) = scaleS (pS a0 a1 a2 a3 a4 a5 b) := by
  pointwise [k0_pay6]
  simp only [r5 a0 a1 a2 a3 a4 a5 A hA]
  rfl

/-- The first codes. -/
theorem r7 (A : FVec Ideal S4x7x8x2304 .f32) (hA : ∀ b h w n, A (ix4 b h w n) = conv a0 a2 b h w n) (b : Fin 4) (n : Fin 2304) :
    k0_pay7 a3 a4 a5 A (k0_pay2 a1) (ix2 b n) = codeS (pS a0 a1 a2 a3 a4 a5 b) n := by
  pointwise [k0_pay7]
  simp only [r4 a0 a1 a2 a3 a4 a5 A hA, r5 a0 a1 a2 a3 a4 a5 A hA]
  rfl

/-- The hidden layer. -/
theorem r8 (s : FVec Ideal S4 .f32) (c : FVec Ideal S4x2304 .fp8e4m3) (hs : ∀ b, s (ix1 b) = scaleS (pS a0 a1 a2 a3 a4 a5 b)) (hc : ∀ b n, c (ix2 b n) = codeS (pS a0 a1 a2 a3 a4 a5 b) n) (b : Fin 4) (k : Fin 384) :
    k0_pay8 a6 a7 a8 s c (constant S4x384 .f32 0x00000000#32) (ix2 b k) = hS a0 a1 a2 a3 a4 a5 a6 a7 a8 b k := by
  pointwise [k0_pay8]
  simp only [hs, hc]
  rfl

/-- The exponent of the second scale. -/
theorem r9 (s : FVec Ideal S4 .f32) (c : FVec Ideal S4x2304 .fp8e4m3) (hs : ∀ b, s (ix1 b) = scaleS (pS a0 a1 a2 a3 a4 a5 b)) (hc : ∀ b n, c (ix2 b n) = codeS (pS a0 a1 a2 a3 a4 a5 b) n) (b : Fin 4) :
    k0_pay9 a6 a7 a8 s c (constant S4x384 .f32 0x00000000#32) (ix1 b) = vexpS (hS a0 a1 a2 a3 a4 a5 a6 a7 a8 b) := by
  pointwise [k0_pay9]
  simp only [r8 a0 a1 a2 a3 a4 a5 a6 a7 a8 s c hs hc]
  rfl

/-- The second scale. -/
theorem r10 (s : FVec Ideal S4 .f32) (c : FVec Ideal S4x2304 .fp8e4m3) (hs : ∀ b, s (ix1 b) = scaleS (pS a0 a1 a2 a3 a4 a5 b)) (hc : ∀ b n, c (ix2 b n) = codeS (pS a0 a1 a2 a3 a4 a5 b) n) (b : Fin 4) :
    k0_pay10 a6 a7 a8 s c (constant S4x384 .f32 0x00000000#32) (ix1 b) = scaleS (hS a0 a1 a2 a3 a4 a5 a6 a7 a8 b) := by
  pointwise [k0_pay10]
  simp only [r9 a0 a1 a2 a3 a4 a5 a6 a7 a8 s c hs hc]
  rfl

/-- The second codes. -/
theorem r11 (s : FVec Ideal S4 .f32) (c : FVec Ideal S4x2304 .fp8e4m3) (hs : ∀ b, s (ix1 b) = scaleS (pS a0 a1 a2 a3 a4 a5 b)) (hc : ∀ b n, c (ix2 b n) = codeS (pS a0 a1 a2 a3 a4 a5 b) n) (b : Fin 4) (k : Fin 384) :
    k0_pay11 a6 a7 a8 s c (constant S4x384 .f32 0x00000000#32) (ix2 b k) = codeS (hS a0 a1 a2 a3 a4 a5 a6 a7 a8 b) k := by
  pointwise [k0_pay11]
  simp only [r8 a0 a1 a2 a3 a4 a5 a6 a7 a8 s c hs hc, r9 a0 a1 a2 a3 a4 a5 a6 a7 a8 s c hs hc]
  rfl

/-- The gate. -/
theorem r13 (s : FVec Ideal S4 .f32) (c : FVec Ideal S4x2304 .fp8e4m3) (hs : ∀ b, s (ix1 b) = scaleS (pS a0 a1 a2 a3 a4 a5 b)) (hc : ∀ b n, c (ix2 b n) = codeS (pS a0 a1 a2 a3 a4 a5 b) n) (b : Fin 4) (n : Fin 2304) :
    k0_pay13 a11 (k0_pay12 a6 a7 a8 a9 a10 s c (constant S4x384 .f32 0x00000000#32)) (ix2 b n) = gS a0 a1 a2 a3 a4 a5 a6 a7 a8 a9 a10 a11 b n := by
  pointwise [k0_pay13, k0_pay12]
  simp only [r10 a0 a1 a2 a3 a4 a5 a6 a7 a8 s c hs hc, r11 a0 a1 a2 a3 a4 a5 a6 a7 a8 s c hs hc]
  rfl

end

end Cert.Eq

end
-- ==== Proof.Eq.RefY.lean ====
module

public import proofs.«01_k».proof.Proof.Eq.RefAll

@[expose] public section

set_option maxRecDepth 16384

noncomputable section

namespace Cert.Eq

open Idealize.ShloMosaic Idealize.ShloMosaic.TcCoe Idealize.ShloMosaic.Tactic
open Cert.ReferenceIdeal Cert.ReferenceIdeal.Gen Cert.ReferenceIdeal.Value

variable (a0 : Vec Ideal S4x7x8x1536 .i8) (a1 : Vec Ideal S4 .f32) (a2 : Vec Ideal S3x3x1536x2304 .i8) (a3 a4 a5 : Vec Ideal S2304 .f32)
  (a6 : Vec Ideal S2304x384 .fp8e4m3) (a7 a8 : Vec Ideal S384 .f32) (a9 : Vec Ideal S384x2304 .fp8e4m3) (a10 a11 : Vec Ideal S2304 .f32)

/-- The gated activation. -/
theorem r14 (A : FVec Ideal S4x7x8x2304 .f32) (v : FVec Ideal S4x2304 .f32) (hA : ∀ b h w n, A (ix4 b h w n) = aS a0 a1 a2 a3 a4 a5 b h w n)
    (hv : ∀ b n, k0_pay13 a11 v (ix2 b n) = gS a0 a1 a2 a3 a4 a5 a6 a7 a8 a9 a10 a11 b n) (b : Fin 4) (h : Fin 7) (w : Fin 8) (n : Fin 2304) :
    k0_pay14 a11 A v (ix4 b h w n) = aS a0 a1 a2 a3 a4 a5 b h w n * gS a0 a1 a2 a3 a4 a5 a6 a7 a8 a9 a10 a11 b n := by
  pointwise [k0_pay14]
  rw [hA, hv]

/-- The output scale, over the gated activation. -/
theorem r15a (A : FVec Ideal S4x7x8x2304 .f32) (v : FVec Ideal S4x2304 .f32) (B : FVec Ideal S4x7x8x2304 .f32) (hB : k0_pay14 a11 A v = B) :
    k0_pay15 a11 A v = yscS ((Finset.univ : Finset (Fin 4 × Fin 7 × Fin 8 × Fin 2304)).fold max (Ideal.ofBits .f32 0xFF800000#32) fun k => FloatOps.absf (F := Ideal) (φ := .f32) (B (ix4 k.1 k.2.1 k.2.2.1 k.2.2.2))) := by
  unfold k0_pay15
  rw [hB]
  pointwise
  simp only [fold1234]
  rfl

/-- The output scale. -/
theorem r15 (A : FVec Ideal S4x7x8x2304 .f32) (v : FVec Ideal S4x2304 .f32) (hA : ∀ b h w n, A (ix4 b h w n) = aS a0 a1 a2 a3 a4 a5 b h w n)
    (hv : ∀ b n, k0_pay13 a11 v (ix2 b n) = gS a0 a1 a2 a3 a4 a5 a6 a7 a8 a9 a10 a11 b n) : k0_pay15 a11 A v = yscS (topYS a0 a1 a2 a3 a4 a5 a6 a7 a8 a9 a10 a11) := by
  rw [r15a a11 A v _ rfl]
  unfold topYS
  simp only [r14 a0 a1 a2 a3 a4 a5 a6 a7 a8 a9 a10 a11 A v hA hv]

/-- The 8-bit output, over the gated activation and the scale. -/
theorem r16a (A : FVec Ideal S4x7x8x2304 .f32) (v : FVec Ideal S4x2304 .f32) (B : FVec Ideal S4x7x8x2304 .f32) (hB : k0_pay14 a11 A v = B) (s : EReal) (hs : k0_pay15 a11 A v = s) (b : Fin 4) (h : Fin 7) (w : Fin 8) (n : Fin 2304) :
    k0_pay16 a11 A v (ix4 b h w n) = yS (B (ix4 b h w n)) s := by
  unfold k0_pay16
  rw [hB, hs]
  pointwise
  unfold yS
  rfl

/-- The 8-bit output. -/
theorem r16 (A : FVec Ideal S4x7x8x2304 .f32) (v : FVec Ideal S4x2304 .f32) (hA : ∀ b h w n, A (ix4 b h w n) = aS a0 a1 a2 a3 a4 a5 b h w n)
    (hv : ∀ b n, k0_pay13 a11 v (ix2 b n) = gS a0 a1 a2 a3 a4 a5 a6 a7 a8 a9 a10 a11 b n) (b : Fin 4) (h : Fin 7) (w : Fin 8) (n : Fin 2304) :
    k0_pay16 a11 A v (ix4 b h w n) = yS (aS a0 a1 a2 a3 a4 a5 b h w n * gS a0 a1 a2 a3 a4 a5 a6 a7 a8 a9 a10 a11 b n) (yscS (topYS a0 a1 a2 a3 a4 a5 a6 a7 a8 a9 a10 a11)) := by
  rw [r16a a11 A v _ rfl _ (r15 a0 a1 a2 a3 a4 a5 a6 a7 a8 a9 a10 a11 A v hA hv), r14 a0 a1 a2 a3 a4 a5 a6 a7 a8 a9 a10 a11 A v hA hv]

end Cert.Eq

end
-- ==== Proof.Eq.RefG.lean ====
module

public import proofs.«01_k».proof.Proof.Eq.RefY

@[expose] public section

set_option maxRecDepth 16384

noncomputable section

namespace Cert.Eq

open Idealize.ShloMosaic Idealize.ShloMosaic.TcCoe Idealize.ShloMosaic.Tactic
open Cert.ReferenceIdeal Cert.ReferenceIdeal.Gen Cert.ReferenceIdeal.Value

variable (a0 : Vec Ideal S4x7x8x1536 .i8) (a1 : Vec Ideal S4 .f32) (a2 : Vec Ideal S3x3x1536x2304 .i8) (a3 a4 a5 : Vec Ideal S2304 .f32)
  (a6 : Vec Ideal S2304x384 .fp8e4m3) (a7 a8 : Vec Ideal S384 .f32) (a9 : Vec Ideal S384x2304 .fp8e4m3) (a10 a11 : Vec Ideal S2304 .f32)

/-- The activation the reference holds. -/
theorem r23 (b : Fin 4) (h : Fin 7) (w : Fin 8) (n : Fin 2304) : k0_pay23 a0 a1 a2 a3 a4 a5 a6 a7 a8 a9 a10 a11 (ix4 b h w n) = aS a0 a1 a2 a3 a4 a5 b h w n := by
  unfold k0_pay23 k0_pay21
  rw [View.ld_unit_zero (by decide), View.ld_unit_zero (by decide), View.ld_unit_zero (by decide), View.ld_unit_zero (by decide)]
  exact r3 a0 a1 a2 a3 a4 a5 _ (r20 a0 a1 a2 a3 a4 a5 a6 a7 a8 a9 a10 a11) b h w n

/-- The scales of the means the reference holds. -/
theorem r24 (b : Fin 4) : k0_pay24 a0 a1 a2 a3 a4 a5 a6 a7 a8 a9 a10 a11 (ix1 b) = scaleS (pS a0 a1 a2 a3 a4 a5 b) := by
  unfold k0_pay24 k0_pay21
  rw [View.ld_unit_zero (by decide), View.ld_unit_zero (by decide), View.ld_unit_zero (by decide), View.ld_unit_zero (by decide)]
  exact r6 a0 a1 a2 a3 a4 a5 _ (r20 a0 a1 a2 a3 a4 a5 a6 a7 a8 a9 a10 a11) b

/-- The quantised means the reference holds. -/
theorem r25 (b : Fin 4) (n : Fin 2304) : k0_pay25 a0 a1 a2 a3 a4 a5 a6 a7 a8 a9 a10 a11 (ix2 b n) = codeS (pS a0 a1 a2 a3 a4 a5 b) n := by
  unfold k0_pay25 k0_pay21
  rw [View.ld_unit_zero (by decide), View.ld_unit_zero (by decide), View.ld_unit_zero (by decide), View.ld_unit_zero (by decide)]
  exact r7 a0 a1 a2 a3 a4 a5 _ (r20 a0 a1 a2 a3 a4 a5 a6 a7 a8 a9 a10 a11) b n

/-- The gate of the reference. -/
theorem r26 (b : Fin 4) (n : Fin 2304) : k0_pay13 a11 (k0_pay26 a0 a1 a2 a3 a4 a5 a6 a7 a8 a9 a10 a11) (ix2 b n) = gS a0 a1 a2 a3 a4 a5 a6 a7 a8 a9 a10 a11 b n := by
  unfold k0_pay26
  rw [View.ld_unit_zero (by decide), View.ld_unit_zero (by decide), View.ld_unit_zero (by decide), View.ld_unit_zero (by decide), View.ld_unit_zero (by decide)]
  exact r13 a0 a1 a2 a3 a4 a5 a6 a7 a8 a9 a10 a11 _ _ (r24 a0 a1 a2 a3 a4 a5 a6 a7 a8 a9 a10 a11) (r25 a0 a1 a2 a3 a4 a5 a6 a7 a8 a9 a10 a11) b n

/-- The 8-bit result. -/
theorem g12 (b : Fin 4) (h : Fin 7) (w : Fin 8) (n : Fin 2304) : G12 a0 a1 a2 a3 a4 a5 a6 a7 a8 a9 a10 a11 (ix4 b h w n) = yS (aS a0 a1 a2 a3 a4 a5 b h w n * gS a0 a1 a2 a3 a4 a5 a6 a7 a8 a9 a10 a11 b n) (yscS (topYS a0 a1 a2 a3 a4 a5 a6 a7 a8 a9 a10 a11)) :=
  r16 a0 a1 a2 a3 a4 a5 a6 a7 a8 a9 a10 a11 _ _ (r23 a0 a1 a2 a3 a4 a5 a6 a7 a8 a9 a10 a11) (r26 a0 a1 a2 a3 a4 a5 a6 a7 a8 a9 a10 a11) b h w n

/-- The scale as a one-element array. -/
theorem r17 (A : FVec Ideal S4x7x8x2304 .f32) (v : FVec Ideal S4x2304 .f32) (s : EReal) (hs : k0_pay15 a11 A v = s) (i : S1x1.Idx) : k0_pay17 a11 A v i = s := by
  unfold k0_pay17
  rw [hs]
  rfl

/-- Its scale. -/
theorem g13 (i : S1x1.Idx) : G13 a0 a1 a2 a3 a4 a5 a6 a7 a8 a9 a10 a11 i = yscS (topYS a0 a1 a2 a3 a4 a5 a6 a7 a8 a9 a10 a11) :=
  r17 a11 _ _ _ (r15 a0 a1 a2 a3 a4 a5 a6 a7 a8 a9 a10 a11 _ _ (r23 a0 a1 a2 a3 a4 a5 a6 a7 a8 a9 a10 a11) (r26 a0 a1 a2 a3 a4 a5 a6 a7 a8 a9 a10 a11)) i

/-- The scales of the means. -/
theorem g16 (b : Fin 4) : G16 a0 a1 a2 a3 a4 a5 a6 a7 a8 a9 a10 a11 (ix2 b 0) = scaleS (pS a0 a1 a2 a3 a4 a5 b) := by
  rw [← r24 a0 a1 a2 a3 a4 a5 a6 a7 a8 a9 a10 a11]
  show k0_pay18 (k0_pay24 a0 a1 a2 a3 a4 a5 a6 a7 a8 a9 a10 a11) _ = _
  generalize k0_pay24 a0 a1 a2 a3 a4 a5 a6 a7 a8 a9 a10 a11 = s
  pointwise [k0_pay18]

/-- The quantised hidden layer. -/
theorem g17 (b : Fin 4) (k : Fin 384) : G17 a0 a1 a2 a3 a4 a5 a6 a7 a8 a9 a10 a11 (ix2 b k) = codeS (hS a0 a1 a2 a3 a4 a5 a6 a7 a8 b) k :=
  r11 a0 a1 a2 a3 a4 a5 a6 a7 a8 _ _ (r24 a0 a1 a2 a3 a4 a5 a6 a7 a8 a9 a10 a11) (r25 a0 a1 a2 a3 a4 a5 a6 a7 a8 a9 a10 a11) b k

/-- The scales of the hidden layer. -/
theorem g18 (b : Fin 4) : G18 a0 a1 a2 a3 a4 a5 a6 a7 a8 a9 a10 a11 (ix2 b 0) = scaleS (hS a0 a1 a2 a3 a4 a5 a6 a7 a8 b) := by
  refine Eq.trans ?_ (r10 a0 a1 a2 a3 a4 a5 a6 a7 a8 _ _ (r24 a0 a1 a2 a3 a4 a5 a6 a7 a8 a9 a10 a11) (r25 a0 a1 a2 a3 a4 a5 a6 a7 a8 a9 a10 a11) b)
  show k0_pay19 (k0_pay10 a6 a7 a8 (k0_pay24 a0 a1 a2 a3 a4 a5 a6 a7 a8 a9 a10 a11) (k0_pay25 a0 a1 a2 a3 a4 a5 a6 a7 a8 a9 a10 a11) (k0_pay22 a0 a1 a2 a3 a4 a5 a6 a7 a8 a9 a10 a11)) _ = k0_pay10 a6 a7 a8 (k0_pay24 a0 a1 a2 a3 a4 a5 a6 a7 a8 a9 a10 a11) (k0_pay25 a0 a1 a2 a3 a4 a5 a6 a7 a8 a9 a10 a11) (k0_pay22 a0 a1 a2 a3 a4 a5 a6 a7 a8 a9 a10 a11) (ix1 b)
  generalize k0_pay10 a6 a7 a8 (k0_pay24 a0 a1 a2 a3 a4 a5 a6 a7 a8 a9 a10 a11) (k0_pay25 a0 a1 a2 a3 a4 a5 a6 a7 a8 a9 a10 a11) (k0_pay22 a0 a1 a2 a3 a4 a5 a6 a7 a8 a9 a10 a11) = s
  pointwise [k0_pay19]

end Cert.Eq

end
-- ==== Proof.Eq.KConv.lean ====
module

public import proofs.«01_k».proof.Proof.Eq.Spec
public import proofs.«01_k».proof.Proof.KI.Outs

@[expose] public section

set_option maxRecDepth 16384

noncomputable section

namespace Cert.Eq

open Idealize.ShloMosaic Idealize.ShloMosaic.TcCoe Idealize.ShloMosaic.Tactic
open Cert.KernelIdeal Cert.KernelIdeal.Gen Cert.KernelIdeal.Body

/-- A row without its leading axes. -/
theorem cast_row (v : Vec Ideal S1x1x8x1536 .i8) (w : Fin 8) (ci : Fin 1536) : shapeCast S8x1536 v shapeCasts_S1x1x8x1536_S8x1536 (ix2 w ci) = v (ix4 0 0 w ci) := by pointwise

/-- A row of the input as numbers. -/
theorem xrow_at (X : Vec Ideal S4x7x8x1536 .i8) (b h : Nat) (hb) (b' : Fin 4) (h' : Fin 7) (eb : b = b'.val) (eh : h = h'.val) (w : Fin 8) (ci : Fin 1536) :
    xrow X b h hb (ix2 w ci) = (((X (ix4 b' h' w ci)).toInt : ℝ) : EReal) := by
  have e : shapeCast S8x1536 (View.ld X (Rect.unit ![b, h, 0, 0] S1x1x8x1536.size hb)) shapeCasts_S1x1x8x1536_S8x1536 (ix2 w ci)
      = View.ld X (Rect.unit ![b, h, 0, 0] S1x1x8x1536.size hb) (ix4 0 0 w ci) := cast_row _ w ci
  have e2 : View.ld X (Rect.unit ![b, h, 0, 0] S1x1x8x1536.size hb) (ix4 0 0 w ci) = X (ix4 b' h' w ci) := by
    refine congrArg X ?_
    subst eb eh
    funext a
    match a with
    | ⟨0, _⟩ => exact Fin.ext (by simp)
    | ⟨1, _⟩ => exact Fin.ext (by simp)
    | ⟨2, _⟩ => exact Fin.ext (by simp)
    | ⟨3, _⟩ => exact Fin.ext (by simp)
  rw [← e2, ← e]
  exact congrArg (fun z : Int => ((z : ℝ) : EReal)) (BitVec.toInt_signExtend_of_le (by decide))

/-- A one-bit comparison of small numbers, read. -/
theorem cmp_sel {α : Type} (w z : Fin 8) (a b : α) : Scalar.select (IntOp.cmpi CmpIPredicate.eq (BitVec.ofNat 32 w.val) (BitVec.ofNat 32 z.val)) a b = if w.val = z.val then a else b := by
  have h : IntOp.cmpi CmpIPredicate.eq (BitVec.ofNat 32 w.val) (BitVec.ofNat 32 z.val) = if w.val = z.val then 1 else 0 := by
    revert w z; decide
  rw [h]
  unfold Scalar.select
  split_ifs <;> first | rfl | contradiction

/-- The row shifted right. -/
theorem shiftR_at (v : FVec Ideal S8x1536 .f32) (w : Fin 8) (ci : Fin 1536) : shift v 1#32 0#32 (ix2 w ci) = if h : w.val = 0 then 0 else v (ix2 ⟨w.val - 1, by omega⟩ ci) := by
  pointwise [shift]
  refine (cmp_sel w 0 _ _).trans ?_
  split_ifs with h1 h2 h2
  · rfl
  · exact absurd h1 h2
  · exact absurd h2 h1
  · refine congrArg v ?_
    rw [show (⟨(w.val + 8 - 1) % 8, by omega⟩ : Fin 8) = ⟨w.val - 1, by omega⟩ from Fin.ext (by simp only [] at h2 ⊢; omega)]

/-- The row shifted left. -/
theorem shiftL_at (v : FVec Ideal S8x1536 .f32) (w : Fin 8) (ci : Fin 1536) : shift v 7#32 7#32 (ix2 w ci) = if h : w.val = 7 then 0 else v (ix2 ⟨w.val + 1, by omega⟩ ci) := by
  pointwise [shift]
  refine (cmp_sel w 7 _ _).trans ?_
  split_ifs with h1 h2 h2
  · rfl
  · exact absurd h1 h2
  · exact absurd h2 h1
  · refine congrArg v ?_
    rw [show (⟨(w.val + 8 - 7) % 8, by omega⟩ : Fin 8) = ⟨w.val + 1, by omega⟩ from Fin.ext (by simp only [] at h2 ⊢; omega)]

/-- Two stacked rows. -/
theorem stack_at (u v : FVec Ideal S8x1536 .f32) (z : Fin 1) (s : Fin 16) (ci : Fin 1536) :
    stack u v (ix3 z s ci) = if h : s.val < 8 then u (ix2 ⟨s.val, h⟩ ci) else v (ix2 ⟨s.val - 8, by omega⟩ ci) := by
  pointwise [stack]

/-- The buffer of shifted inputs holds the padded input: copy `k` shifted so that column `w` reads column `w + k` of the padded input. -/
def xkG (X : Vec Ideal S4x7x8x1536 .i8) : Vec Ideal S3x224x1536 .bf16 := fun y =>
  px X ⟨(y 1).val / 8 % 4, by omega⟩ ((y 1).val / 32 + 1) ((y 1).val % 8 + (y 0).val) (y 2)

/-- What the left-shifted, the plain and the right-shifted row hold, as the padded input. -/
theorem px_row (X : Vec Ideal S4x7x8x1536 .i8) (b : Fin 4) (h : Fin 7) (w : Nat) (ci : Fin 1536) (hw : 1 ≤ w ∧ w ≤ 8) :
    px X b (h.val + 1) w ci = (((X (ix4 b h ⟨w - 1, by omega⟩ ci)).toInt : ℝ) : EReal) := by
  unfold px
  rw [dif_pos ⟨⟨by omega, by omega⟩, hw⟩]
  rfl

/-- Left and right of the image the padded input is zero. -/
theorem px_out (X : Vec Ideal S4x7x8x1536 .i8) (b : Fin 4) (h : Nat) (w : Nat) (ci : Fin 1536) (hw : ¬ (1 ≤ w ∧ w ≤ 8)) : px X b h w ci = 0 := by
  unfold px
  rw [dif_neg fun h => hw h.2]

/-- The padded input at equal places. -/
theorem px_congr (X : Vec Ideal S4x7x8x1536 .i8) {b b' : Fin 4} {h h' w w' : Nat} {ci ci' : Fin 1536} (hb : b.val = b'.val) (hh : h = h') (hw : w = w') (hc : ci.val = ci'.val) :
    px X b h w ci = px X b' h' w' ci' := by
  obtain rfl := Fin.ext hb
  obtain rfl := Fin.ext hc
  rw [hh, hw]

/-- The image of the first and the second row of a pair. -/
def bq (g : Fin 14) (u : Fin 2) : Fin 4 := ⟨2 * (g.val % 2) + u.val, by omega⟩
/-- The image row of a pair. -/
def hq (g : Fin 14) : Fin 7 := ⟨g.val / 2, by omega⟩

/-- A row shifted right is the padded row from column 0. -/
theorem rowR (X : Vec Ideal S4x7x8x1536 .i8) (g : Fin 14) (u : Fin 2) (w : Fin 8) (ci : Fin 1536) :
    shift (xrow X _ _ (inbx g u)) 1#32 0#32 (ix2 w ci) = px X (bq g u) ((hq g).val + 1) (w.val + 0) ci := by
  rw [shiftR_at]
  split_ifs with h
  · rw [px_out _ _ _ _ _ (by omega)]
  · rw [px_row _ _ _ _ _ (by omega)]
    exact xrow_at X _ _ _ (bq g u) (hq g) rfl rfl _ _

/-- A row as it is, is the padded row from column 1. -/
theorem rowC (X : Vec Ideal S4x7x8x1536 .i8) (g : Fin 14) (u : Fin 2) (w : Fin 8) (ci : Fin 1536) :
    xrow X _ _ (inbx g u) (ix2 w ci) = px X (bq g u) ((hq g).val + 1) (w.val + 1) ci := by
  rw [px_row _ _ _ _ _ (by omega)]
  exact xrow_at X _ _ _ (bq g u) (hq g) rfl rfl _ _

/-- A row shifted left is the padded row from column 2. -/
theorem rowL (X : Vec Ideal S4x7x8x1536 .i8) (g : Fin 14) (u : Fin 2) (w : Fin 8) (ci : Fin 1536) :
    shift (xrow X _ _ (inbx g u)) 7#32 7#32 (ix2 w ci) = px X (bq g u) ((hq g).val + 1) (w.val + 2) ci := by
  rw [shiftL_at]
  split_ifs with h
  · rw [px_out _ _ _ _ _ (by omega)]
  · rw [px_row _ _ _ _ _ (by omega)]
    exact xrow_at X _ _ _ (bq g u) (hq g) rfl rfl _ _

/-- One stored pair of rows agrees with the padded input. -/
theorem pair_at (X : Vec Ideal S4x7x8x1536 .i8) (g : Fin 14) (k : Fin 3) (u v : FVec Ideal S8x1536 .f32)
    (hu : ∀ w ci, u (ix2 w ci) = px X (bq g 0) ((hq g).val + 1) (w.val + k.val) ci) (hv : ∀ w ci, v (ix2 w ci) = px X (bq g 1) ((hq g).val + 1) (w.val + k.val) ci)
    (y : (Rect.unit (s := S3x224x1536) ![k.val, 16 * g.val, 0] S1x16x1536.size (inbk k g)).shape.Idx) :
    stack u v y = xkG X ((Rect.unit (s := S3x224x1536) ![k.val, 16 * g.val, 0] S1x16x1536.size (inbk k g)).emb y) := by
  have e : ∀ a, ((Rect.unit (s := S3x224x1536) ![k.val, 16 * g.val, 0] S1x16x1536.size (inbk k g)).emb y a).val = (![k.val, 16 * g.val, 0] : Fin 3 → Nat) a + (y a).val := by
    intro a; simp
  obtain ⟨z, s, ci, rfl⟩ : ∃ (z : Fin 1) (s : Fin 16) (ci : Fin 1536), y = ix3 z s ci := ⟨y 0, y 1, y 2, eq_ix3 y⟩
  have hs := s.isLt
  have hz := z.isLt
  have hg := g.isLt
  have e0 := e 0
  have e1 := e 1
  have e2 := e 2
  simp only [Matrix.cons_val_zero, Matrix.cons_val_one, Matrix.cons_val] at e0 e1 e2
  unfold xkG
  rw [stack_at]
  split_ifs with h
  · rw [hu]
    exact px_congr X (by show 2 * (g.val % 2) + 0 = _ ; dsimp only; rw [e1]; show _ = (16 * g.val + s.val) / 8 % 4; omega)
      (by show g.val / 2 + 1 = _; rw [e1]; show _ = (16 * g.val + s.val) / 32 + 1; omega)
      (by rw [e0, e1]; show s.val + k.val = (16 * g.val + s.val) % 8 + (k.val + z.val); omega)
      (by rw [e2]; show ci.val = 0 + ci.val; omega)
  · rw [hv]
    exact px_congr X (by show 2 * (g.val % 2) + 1 = _ ; dsimp only; rw [e1]; show _ = (16 * g.val + s.val) / 8 % 4; omega)
      (by show g.val / 2 + 1 = _; rw [e1]; show _ = (16 * g.val + s.val) / 32 + 1; omega)
      (by rw [e0, e1]; show s.val - 8 + k.val = (16 * g.val + s.val) % 8 + (k.val + z.val); omega)
      (by rw [e2]; show ci.val = 0 + ci.val; omega)

/-- The buffer of shifted inputs after the first point. -/
theorem xk_eq (X : Vec Ideal S4x7x8x1536 .i8) : View.canon (xkL X) = xkG X := by
  funext y
  refine View.canon_apply_of_pieces (xkG X) (xkL X) ?_ y (xk_cover X y)
  intro p hp
  unfold xkL at hp
  obtain ⟨g, -, hp⟩ := List.mem_flatMap.mp hp
  simp only [List.mem_cons, List.not_mem_nil, or_false] at hp
  obtain rfl | rfl | rfl := hp
  · exact pair_at X g 2 _ _ (rowL X g 0) (rowL X g 1)
  · exact pair_at X g 1 _ _ (rowC X g 0) (rowC X g 1)
  · exact pair_at X g 0 _ _ (rowR X g 0) (rowR X g 1)

end Cert.Eq

end
-- ==== Proof.Eq.KAcc.lean ====
module

public import proofs.«01_k».proof.Proof.Eq.KConv

@[expose] public section

set_option maxRecDepth 16384

noncomputable section

namespace Cert.Eq

open Idealize.ShloMosaic Idealize.ShloMosaic.TcCoe Idealize.ShloMosaic.Tactic
open Cert.KernelIdeal Cert.KernelIdeal.Gen Cert.KernelIdeal.Body

/-- One product of rows and weights. -/
def dotp (u : Fin 1536 → EReal) (v : Fin 1536 → BitVec 8) : EReal := ∑ ci : Fin 1536, u ci * ((((v ci).toInt : ℤ) : ℝ) : EReal)

/-- The first product of the middle rows. -/
theorem p167 (u : Vec Ideal S1x224x1536 .bf16) (v : Vec Ideal S1x1x1536x256 .i8) (r : Fin 224) (n : Fin 256) :
    k0_pay167 u v (ix2 r n) = dotp (fun ci => u (ix3 0 r ci)) (fun ci => v (ix4 0 0 ci n)) := by
  pointwise [k0_pay167, dotp]
  rfl

/-- The first product of the upper rows. -/
theorem p168 (u : Vec Ideal S1x192x1536 .bf16) (v : Vec Ideal S1x1x1536x256 .i8) (r : Fin 192) (n : Fin 256) :
    k0_pay168 u v (ix2 r n) = dotp (fun ci => u (ix3 0 r ci)) (fun ci => v (ix4 0 0 ci n)) := by
  pointwise [k0_pay168, dotp]
  rfl

/-- The first product of the lower rows. -/
theorem p169 (u : Vec Ideal S1x192x1536 .bf16) (v : Vec Ideal S1x1x1536x256 .i8) (r : Fin 192) (n : Fin 256) :
    k0_pay169 u v (ix2 r n) = dotp (fun ci => u (ix3 0 r ci)) (fun ci => v (ix4 0 0 ci n)) := by
  pointwise [k0_pay169, dotp]
  rfl

/-- The second product of the upper rows. -/
theorem p170 (a : FVec Ideal S192x256 .f32) (u : Vec Ideal S1x192x1536 .bf16) (v : Vec Ideal S1x1x1536x256 .i8) (r : Fin 192) (n : Fin 256) :
    k0_pay170 a u v (ix2 r n) = a (ix2 r n) + dotp (fun ci => u (ix3 0 r ci)) (fun ci => v (ix4 0 0 ci n)) := by
  pointwise [k0_pay170, dotp]
  rfl

/-- The second product of the lower rows. -/
theorem p171 (a : FVec Ideal S192x256 .f32) (u : Vec Ideal S1x192x1536 .bf16) (v : Vec Ideal S1x1x1536x256 .i8) (r : Fin 192) (n : Fin 256) :
    k0_pay171 a u v (ix2 r n) = a (ix2 r n) + dotp (fun ci => u (ix3 0 r ci)) (fun ci => v (ix4 0 0 ci n)) := by
  pointwise [k0_pay171, dotp]
  rfl

/-- The other two products of the middle rows. -/
theorem p172 (a : FVec Ideal S224x256 .f32) (u u' : Vec Ideal S1x224x1536 .bf16) (v v' : Vec Ideal S1x1x1536x256 .i8) (r : Fin 224) (n : Fin 256) :
    k0_pay172 a u v u' v' (ix2 r n) = a (ix2 r n) + dotp (fun ci => u (ix3 0 r ci)) (fun ci => v (ix4 0 0 ci n)) + dotp (fun ci => u' (ix3 0 r ci)) (fun ci => v' (ix4 0 0 ci n)) := by
  pointwise [k0_pay172, dotp]
  rfl

/-- The third products of the upper and the lower rows, and the three glued. -/
theorem p173 (a b : FVec Ideal S192x256 .f32) (c : FVec Ideal S224x256 .f32) (u u' : Vec Ideal S1x192x1536 .bf16) (v v' : Vec Ideal S1x1x1536x256 .i8) (h : Fin 7) (q : Fin 4) (w : Fin 8) (n : Fin 256) :
    k0_pay173 a b c u v u' v' (ix4 h q w n) = c (ix2 ⟨h.val * 32 + q.val * 8 + w.val, by omega⟩ n)
      + (if g : h.val * 32 + q.val * 8 + w.val < 32 then 0 else a (ix2 ⟨h.val * 32 + q.val * 8 + w.val - 32, by omega⟩ n)
        + dotp (fun ci => u (ix3 0 ⟨h.val * 32 + q.val * 8 + w.val - 32, by omega⟩ ci)) (fun ci => v (ix4 0 0 ci n)))
      + (if g : h.val * 32 + q.val * 8 + w.val < 192 then b (ix2 ⟨h.val * 32 + q.val * 8 + w.val, g⟩ n)
        + dotp (fun ci => u' (ix3 0 ⟨h.val * 32 + q.val * 8 + w.val, g⟩ ci)) (fun ci => v' (ix4 0 0 ci n)) else 0) := by
  pointwise [k0_pay173, dotp]
  rfl

/-- A block of rows of the shifted inputs, read. -/
theorem ld_xk (X : Vec Ideal S4x7x8x1536 .i8) (k o R : Nat) (inb : ∀ a, (![k, o, 0] : Fin 3 → Nat) a + (![1, R, 1536] : Fin 3 → Nat) a ≤ S3x224x1536.size a) (r : Fin R) (ci : Fin 1536)
    (q : Fin 4) (h w : Nat) (hw : w < 8) (hr : o + r.val + 32 = h * 32 + q.val * 8 + w) :
    View.ld (xkG X) (Rect.unit ![k, o, 0] ![1, R, 1536] inb) (ix3 0 r ci) = px X q h (w + k) ci := by
  have e0 : ((Rect.unit (s := S3x224x1536) ![k, o, 0] ![1, R, 1536] inb).idx (ix3 0 r ci) 0).val = k := by simp
  have e1 : ((Rect.unit (s := S3x224x1536) ![k, o, 0] ![1, R, 1536] inb).idx (ix3 0 r ci) 1).val = o + r.val := by simp
  have e2 : ((Rect.unit (s := S3x224x1536) ![k, o, 0] ![1, R, 1536] inb).idx (ix3 0 r ci) 2).val = ci.val := by simp
  exact px_congr X (by dsimp only; rw [e1]; omega) (by rw [e1]; omega) (by rw [e0, e1]; omega) e2

/-- The weights of one tap, read. -/
theorem ld_w (W : Vec Ideal S3x3x1536x256 .i8) (kh kw : Fin 3) (inb : ∀ a, (![kh.val, kw.val, 0, 0] : Fin 4 → Nat) a + S1x1x1536x256.size a ≤ S3x3x1536x256.size a) (ci : Fin 1536) (n : Fin 256) :
    View.ld W (Rect.unit ![kh.val, kw.val, 0, 0] S1x1x1536x256.size inb) (ix4 0 0 ci n) = W (ix4 kh kw ci n) := by
  refine congrArg W (funext fun a => ?_)
  match a with
  | ⟨0, _⟩ => exact Fin.ext (by simp)
  | ⟨1, _⟩ => exact Fin.ext (by simp)
  | ⟨2, _⟩ => exact Fin.ext (by simp)
  | ⟨3, _⟩ => exact Fin.ext (by simp)

section Acc

variable (X : Vec Ideal S4x7x8x1536 .i8) (Wt : Vec Ideal S3x3x1536x256 .i8) (W : Vec Ideal S3x3x1536x2304 .i8) (n : Fin 256) (n' : Fin 2304)
  (hW : ∀ kh kw ci, Wt (ix4 kh kw ci n) = W (ix4 kh kw ci n'))

include hW in
/-- One product of the kernel is one tap of the convolution. -/
theorem dot_tap (kh kw : Fin 3) (o R : Nat) (inb) (inb') (r : Fin R) (q : Fin 4) (h : Fin 7) (w : Fin 8) (hr : o + r.val + 32 = (h.val + kh.val) * 32 + q.val * 8 + w.val) :
    dotp (fun ci => View.ld (xkG X) (Rect.unit ![kw.val, o, 0] ![1, R, 1536] inb) (ix3 0 r ci)) (fun ci => View.ld Wt (Rect.unit ![kh.val, kw.val, 0, 0] S1x1x1536x256.size inb') (ix4 0 0 ci n))
      = tap X W kh kw q h w n' := by
  unfold dotp tap
  refine Finset.sum_congr rfl fun ci _ => ?_
  dsimp only
  rw [ld_xk X kw.val o R inb r ci q (h.val + kh.val) w.val w.isLt hr, ld_w Wt kh kw inb' ci n, hW]

/-- A tap above the image contributes nothing. -/
theorem tap_top (kw : Fin 3) (q : Fin 4) (w : Fin 8) (h : Fin 7) (hh : h.val = 0) : tap X W 0 kw q h w n' = 0 := by
  unfold tap
  refine Finset.sum_eq_zero fun ci _ => ?_
  unfold px
  rw [dif_neg (by simp only [Fin.val_zero]; omega), zero_mul]

/-- A tap below the image contributes nothing. -/
theorem tap_bot (kw : Fin 3) (q : Fin 4) (w : Fin 8) (h : Fin 7) (hh : h.val = 6) : tap X W 2 kw q h w n' = 0 := by
  unfold tap
  refine Finset.sum_eq_zero fun ci _ => ?_
  unfold px
  rw [dif_neg (by simp only [Fin.val_two]; omega), zero_mul]

include hW in
/-- The kernel's accumulator is the convolution. -/
theorem acc_at (h : Fin 7) (q : Fin 4) (w : Fin 8) : acc (xkG X) Wt (ix4 h q w n) = conv X W q h w n' := by
  have hh := h.isLt
  have hq := q.isLt
  have hw := w.isLt
  unfold acc conv
  rw [p173, p172, p167]
  have t10 := dot_tap X Wt W n n' hW 1 0 0 224 inb_S3x224x1536_S1x224x1536_0_0_0 inb_S3x3x1536x256_S1x1x1536x256_1_0_0_0 ⟨h.val * 32 + q.val * 8 + w.val, by omega⟩ q h w (by simp; omega)
  have t11 := dot_tap X Wt W n n' hW 1 1 0 224 inb_S3x224x1536_S1x224x1536_1_0_0 inb_S3x3x1536x256_S1x1x1536x256_1_1_0_0 ⟨h.val * 32 + q.val * 8 + w.val, by omega⟩ q h w (by simp; omega)
  have t12 := dot_tap X Wt W n n' hW 1 2 0 224 inb_S3x224x1536_S1x224x1536_2_0_0 inb_S3x3x1536x256_S1x1x1536x256_1_2_0_0 ⟨h.val * 32 + q.val * 8 + w.val, by omega⟩ q h w (by simp; omega)
  have c1 := congrArg₂ (· + ·) (congrArg₂ (· + ·) t10 t11) t12
  have top : (if g : h.val * 32 + q.val * 8 + w.val < 32 then (0 : EReal) else k0_pay170 (k0_pay168 (View.ld (xkG X) (Rect.unit ![0, 0, 0] S1x192x1536.size inb_S3x224x1536_S1x192x1536_0_0_0)) (View.ld Wt (Rect.unit ![0, 0, 0, 0] S1x1x1536x256.size inb_S3x3x1536x256_S1x1x1536x256_0_0_0_0)))
      (View.ld (xkG X) (Rect.unit ![1, 0, 0] S1x192x1536.size inb_S3x224x1536_S1x192x1536_1_0_0)) (View.ld Wt (Rect.unit ![0, 1, 0, 0] S1x1x1536x256.size inb_S3x3x1536x256_S1x1x1536x256_0_1_0_0)) (ix2 ⟨h.val * 32 + q.val * 8 + w.val - 32, by omega⟩ n)
        + dotp (fun ci => View.ld (xkG X) (Rect.unit ![2, 0, 0] S1x192x1536.size inb_S3x224x1536_S1x192x1536_2_0_0) (ix3 0 ⟨h.val * 32 + q.val * 8 + w.val - 32, by omega⟩ ci)) (fun ci => View.ld Wt (Rect.unit ![0, 2, 0, 0] S1x1x1536x256.size inb_S3x3x1536x256_S1x1x1536x256_0_2_0_0) (ix4 0 0 ci n)))
      = tap X W 0 0 q h w n' + tap X W 0 1 q h w n' + tap X W 0 2 q h w n' := by
    split_ifs with g
    · rw [tap_top X W n' _ _ _ _ (by omega), tap_top X W n' _ _ _ _ (by omega), tap_top X W n' _ _ _ _ (by omega), add_zero, add_zero]
    · rw [p170, p168]
      exact congrArg₂ (· + ·) (congrArg₂ (· + ·)
        (dot_tap X Wt W n n' hW 0 0 0 192 inb_S3x224x1536_S1x192x1536_0_0_0 inb_S3x3x1536x256_S1x1x1536x256_0_0_0_0 ⟨h.val * 32 + q.val * 8 + w.val - 32, by omega⟩ q h w (by simp; omega))
        (dot_tap X Wt W n n' hW 0 1 0 192 inb_S3x224x1536_S1x192x1536_1_0_0 inb_S3x3x1536x256_S1x1x1536x256_0_1_0_0 ⟨h.val * 32 + q.val * 8 + w.val - 32, by omega⟩ q h w (by simp; omega)))
        (dot_tap X Wt W n n' hW 0 2 0 192 inb_S3x224x1536_S1x192x1536_2_0_0 inb_S3x3x1536x256_S1x1x1536x256_0_2_0_0 ⟨h.val * 32 + q.val * 8 + w.val - 32, by omega⟩ q h w (by simp; omega))
  have bot : (if g : h.val * 32 + q.val * 8 + w.val < 192 then k0_pay171 (k0_pay169 (View.ld (xkG X) (Rect.unit ![0, 32, 0] S1x192x1536.size inb_S3x224x1536_S1x192x1536_0_32_0)) (View.ld Wt (Rect.unit ![2, 0, 0, 0] S1x1x1536x256.size inb_S3x3x1536x256_S1x1x1536x256_2_0_0_0)))
      (View.ld (xkG X) (Rect.unit ![1, 32, 0] S1x192x1536.size inb_S3x224x1536_S1x192x1536_1_32_0)) (View.ld Wt (Rect.unit ![2, 1, 0, 0] S1x1x1536x256.size inb_S3x3x1536x256_S1x1x1536x256_2_1_0_0)) (ix2 ⟨h.val * 32 + q.val * 8 + w.val, g⟩ n)
        + dotp (fun ci => View.ld (xkG X) (Rect.unit ![2, 32, 0] S1x192x1536.size inb_S3x224x1536_S1x192x1536_2_32_0) (ix3 0 ⟨h.val * 32 + q.val * 8 + w.val, g⟩ ci)) (fun ci => View.ld Wt (Rect.unit ![2, 2, 0, 0] S1x1x1536x256.size inb_S3x3x1536x256_S1x1x1536x256_2_2_0_0) (ix4 0 0 ci n)) else (0 : EReal))
      = tap X W 2 0 q h w n' + tap X W 2 1 q h w n' + tap X W 2 2 q h w n' := by
    split_ifs with g
    · rw [p171, p169]
      exact congrArg₂ (· + ·) (congrArg₂ (· + ·)
        (dot_tap X Wt W n n' hW 2 0 32 192 inb_S3x224x1536_S1x192x1536_0_32_0 inb_S3x3x1536x256_S1x1x1536x256_2_0_0_0 ⟨h.val * 32 + q.val * 8 + w.val, g⟩ q h w (by simp; omega))
        (dot_tap X Wt W n n' hW 2 1 32 192 inb_S3x224x1536_S1x192x1536_1_32_0 inb_S3x3x1536x256_S1x1x1536x256_2_1_0_0 ⟨h.val * 32 + q.val * 8 + w.val, g⟩ q h w (by simp; omega)))
        (dot_tap X Wt W n n' hW 2 2 32 192 inb_S3x224x1536_S1x192x1536_2_32_0 inb_S3x3x1536x256_S1x1x1536x256_2_2_0_0 ⟨h.val * 32 + q.val * 8 + w.val, g⟩ q h w (by simp; omega))
    · rw [tap_bot X W n' _ _ _ _ (by omega), tap_bot X W n' _ _ _ _ (by omega), tap_bot X W n' _ _ _ _ (by omega), add_zero, add_zero]
  refine (congrArg₂ (· + ·) (congrArg₂ (· + ·) c1 top) bot).trans ?_
  abel

end Acc

end Cert.Eq

end
-- ==== Proof.Eq.KBlk.lean ====
module

public import proofs.«01_k».proof.Proof.KI.Outs
public import Idealize.ShloMosaic.Lib.Pipeline.ValueKit.Point
public import Idealize.ShloMosaic.Lib.Claim

@[expose] public section

set_option maxRecDepth 16384

noncomputable section

namespace Cert.Eq

open Idealize.ShloMosaic Idealize.ShloMosaic.TcCoe Idealize.ShloMosaic.Tactic
open Cert.KernelIdeal Cert.KernelIdeal.Gen Cert.KernelIdeal.Body

/-- Which block of each staged array a grid point reads. -/
theorem idx : ∀ t : Fin cfg0.N, win0_0.index t = ![0, 0, 0, 0] ∧ win0_1.index t = ![0] ∧ win0_2.index t = ![0, 0, 0, t.val] ∧ win0_3.index t = ![0, t.val] ∧ win0_4.index t = ![0, t.val] ∧ win0_5.index t = ![0, t.val]
    ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

variable (m : (ℓ : Loc nD τ sig) → Buf (Elt Ideal) ℓ) (c : Dev nD)

/-- The block of argument 0 is the whole argument. -/
theorem blk0 (t : Fin cfg0.N) : iblk m c 0 t = m ((c : Thread nD τ).loc main_arg0) := by blk_ext! [iblk, V, idx t]

/-- The block of argument 1 is the whole argument. -/
theorem blk1 (t : Fin cfg0.N) : iblk m c 1 t = m ((c : Thread nD τ).loc main_arg1) := by blk_ext! [iblk, V, idx t]

/-- The block of argument 6 is the whole argument. -/
theorem blk6 (t : Fin cfg0.N) : iblk m c 6 t = m ((c : Thread nD τ).loc main_arg6) := by blk_ext! [iblk, V, idx t]

/-- The block of argument 9 is the whole argument. -/
theorem blk9 (t : Fin cfg0.N) : iblk m c 9 t = m ((c : Thread nD τ).loc main_arg9) := by blk_ext! [iblk, V, idx t]

/-- Column `n` of channel tile `j`. -/
def col (j : Fin 9) (n : Fin 256) : Fin 2304 := ⟨256 * j.val + n.val, by omega⟩

/-- The block of the convolution weights is its channel tile. -/
theorem blk2 (j : Fin 9) (kh kw : Fin 3) (ci : Fin 1536) (n : Fin 256) :
    (iblk m c 2 (pt j) : Vec Ideal S3x3x1536x256 .i8) (ix4 kh kw ci n) = (m ((c : Thread nD τ).loc main_arg2) : Vec Ideal S3x3x1536x2304 .i8) (ix4 kh kw ci (col j n)) := by
  have hp : (pt j).val = j.val := rfl
  have hc : (col j n).val = 256 * j.val + n.val := rfl
  blk_ext [iblk, V, idx (pt j)]

/-- The block of argument 3 is its channel tile. -/
theorem blk3 (j : Fin 9) (n : Fin 256) :
    (iblk m c 3 (pt j) : Vec Ideal S1x256 .f32) (ix2 0 n) = (m ((c : Thread nD τ).loc main_arg3) : Vec Ideal S2304 .f32) (ix1 (col j n)) := by
  have hp : (pt j).val = j.val := rfl
  have hc : (col j n).val = 256 * j.val + n.val := rfl
  blk_point [iblk, V, idx (pt j)]

/-- The block of argument 4 is its channel tile. -/
theorem blk4 (j : Fin 9) (n : Fin 256) :
    (iblk m c 4 (pt j) : Vec Ideal S1x256 .f32) (ix2 0 n) = (m ((c : Thread nD τ).loc main_arg4) : Vec Ideal S2304 .f32) (ix1 (col j n)) := by
  have hp : (pt j).val = j.val := rfl
  have hc : (col j n).val = 256 * j.val + n.val := rfl
  blk_point [iblk, V, idx (pt j)]

/-- The block of argument 5 is its channel tile. -/
theorem blk5 (j : Fin 9) (n : Fin 256) :
    (iblk m c 5 (pt j) : Vec Ideal S1x256 .f32) (ix2 0 n) = (m ((c : Thread nD τ).loc main_arg5) : Vec Ideal S2304 .f32) (ix1 (col j n)) := by
  have hp : (pt j).val = j.val := rfl
  have hc : (col j n).val = 256 * j.val + n.val := rfl
  blk_point [iblk, V, idx (pt j)]

/-- The block of argument 7 is the whole argument, as one row. -/
theorem blk7 (t : Fin cfg0.N) (n : Fin 384) :
    (iblk m c 7 t : Vec Ideal S1x384 .f32) (ix2 0 n) = (m ((c : Thread nD τ).loc main_arg7) : Vec Ideal S384 .f32) (ix1 n) := by
  blk_point [iblk, V, idx t]

/-- The block of argument 8 is the whole argument, as one row. -/
theorem blk8 (t : Fin cfg0.N) (n : Fin 384) :
    (iblk m c 8 t : Vec Ideal S1x384 .f32) (ix2 0 n) = (m ((c : Thread nD τ).loc main_arg8) : Vec Ideal S384 .f32) (ix1 n) := by
  blk_point [iblk, V, idx t]

/-- The block of argument 10 is the whole argument, as one row. -/
theorem blk10 (t : Fin cfg0.N) (n : Fin 2304) :
    (iblk m c 10 t : Vec Ideal S1x2304 .f32) (ix2 0 n) = (m ((c : Thread nD τ).loc main_arg10) : Vec Ideal S2304 .f32) (ix1 n) := by
  blk_point [iblk, V, idx t]

/-- The block of argument 11 is the whole argument, as one row. -/
theorem blk11 (t : Fin cfg0.N) (n : Fin 2304) :
    (iblk m c 11 t : Vec Ideal S1x2304 .f32) (ix2 0 n) = (m ((c : Thread nD τ).loc main_arg11) : Vec Ideal S2304 .f32) (ix1 n) := by
  blk_point [iblk, V, idx t]

end Cert.Eq

end
-- ==== Proof.Eq.KAct.lean ====
module

public import proofs.«01_k».proof.Proof.Eq.KAcc
public import proofs.«01_k».proof.Proof.Eq.KBlk
public import proofs.«01_k».proof.Proof.Eq.Spec2

@[expose] public section

set_option maxRecDepth 16384

noncomputable section

namespace Cert.Eq

open Idealize.ShloMosaic Idealize.ShloMosaic.TcCoe Idealize.ShloMosaic.Tactic
open Cert.KernelIdeal Cert.KernelIdeal.Gen Cert.KernelIdeal.Body

/-- The activation of a tile, over any accumulator and operands. -/
theorem actT_at (A : FVec Ideal S7x4x8x256 .f32) (s : EReal) (ws bns bnb : Vec Ideal S1x256 .f32) (b : Fin 4) (h : Fin 7) (w : Fin 8) (n : Fin 256) (C S WS BS BB : EReal)
    (hA : A (ix4 h b w n) = C) (hs : s = S) (hw : ws (ix2 0 n) = WS) (hb : bns (ix2 0 n) = BS) (hbb : bnb (ix2 0 n) = BB) :
    actT (F := Ideal) A s ws bns bnb b.val (sl4 b) (ix3 h w n) = (C * (S * WS) * BS + BB) * Ideal.logistic (C * (S * WS) * BS + BB) := by
  pointwise [actT]
  rw [hA, hs, hw, hb, hbb]

/-- The scalar the kernel reads from the four scales. -/
theorem scal_at (x : Vec Ideal S4 .f32) (b : Fin 4) : scal x b.val (hs4 b) = x (ix1 b) := by
  unfold scal
  refine congrArg x (funext fun a => ?_)
  match a with
  | ⟨0, _⟩ => exact Fin.ext (by simp)

/-- A loaded row is the row. -/
theorem row_eq (x : Vec Ideal S1x256 .f32) : row x = x := View.ld_unit_zero (by decide) _ x

variable (m : (ℓ : Loc nD τ sig) → Buf (Elt Ideal) ℓ) (c : Dev nD)

/-- The argument arrays at the shapes they have. -/
abbrev A0 : Vec Ideal S4x7x8x1536 .i8 := m ((c : Thread nD τ).loc main_arg0)
@[inherit_doc A0] abbrev A1 : Vec Ideal S4 .f32 := m ((c : Thread nD τ).loc main_arg1)
@[inherit_doc A0] abbrev A2 : Vec Ideal S3x3x1536x2304 .i8 := m ((c : Thread nD τ).loc main_arg2)
@[inherit_doc A0] abbrev A3 : Vec Ideal S2304 .f32 := m ((c : Thread nD τ).loc main_arg3)
@[inherit_doc A0] abbrev A4 : Vec Ideal S2304 .f32 := m ((c : Thread nD τ).loc main_arg4)
@[inherit_doc A0] abbrev A5 : Vec Ideal S2304 .f32 := m ((c : Thread nD τ).loc main_arg5)
@[inherit_doc A0] abbrev A6 : Vec Ideal S2304x384 .fp8e4m3 := m ((c : Thread nD τ).loc main_arg6)
@[inherit_doc A0] abbrev A7 : Vec Ideal S384 .f32 := m ((c : Thread nD τ).loc main_arg7)
@[inherit_doc A0] abbrev A8 : Vec Ideal S384 .f32 := m ((c : Thread nD τ).loc main_arg8)
@[inherit_doc A0] abbrev A9 : Vec Ideal S384x2304 .fp8e4m3 := m ((c : Thread nD τ).loc main_arg9)
@[inherit_doc A0] abbrev A10 : Vec Ideal S2304 .f32 := m ((c : Thread nD τ).loc main_arg10)
@[inherit_doc A0] abbrev A11 : Vec Ideal S2304 .f32 := m ((c : Thread nD τ).loc main_arg11)

/-- The activation by image, row, column and channel. -/
abbrev aK (b : Fin 4) (h : Fin 7) (w : Fin 8) (n : Fin 2304) : EReal := aS (A0 m c) (A1 m c) (A2 m c) (A3 m c) (A4 m c) (A5 m c) b h w n

/-- A tile of the kernel's activations. -/
theorem tile_at (j : Fin 9) (b : Fin 4) (h : Fin 7) (w : Fin 8) (n : Fin 256) : tile m c j b (ix3 h w n) = aK m c b h w (col j n) := by
  unfold tile act
  refine (actT_at _ _ _ _ _ b h w n (conv (A0 m c) (A2 m c) b h w (col j n)) (A1 m c (ix1 b)) (A3 m c (ix1 (col j n))) (A4 m c (ix1 (col j n))) (A5 m c (ix1 (col j n))) ?_ ?_ ?_ ?_ ?_).trans rfl
  · unfold XK
    rw [xk_eq, blk0]
    exact acc_at (A0 m c) _ (A2 m c) n (col j n) (fun kh kw ci => blk2 m c j kh kw ci n) h b w
  · rw [scal_at, blk1]
  · rw [row_eq]; exact blk3 m c j n
  · rw [row_eq]; exact blk4 m c j n
  · rw [row_eq]; exact blk5 m c j n

/-- The mean of a tile, with the sum taken rows first. -/
theorem poolT_at (T : FVec Ideal S7x8x256 .f32) (n : Fin 256) : poolT T (ix3 0 0 n) = meanS fun h w => T (ix3 h w n) := by
  pointwise [poolT]
  unfold meanS
  rw [show Ideal.ofBits .f32 0x42600000#32 = ((56 : ℝ) : EReal) by simp [Ideal.ofBits, Ideal.ieee, -EReal.coe_mul]; norm_num,
    Ideal.div_coe (by norm_num), Finset.sum_comm]
  rw [show Named.named (F := Ideal) (φ := .f32) κ "inv_hw" 1016219941#32 = ((1 / 56 : ℝ) : EReal) from IdealRules.named_const.ideal_named_scalar _ _ _ _ rfl]

/-- The means. -/
theorem POOL_at (j : Fin 9) (b : Fin 4) (n : Fin 256) : POOL m c (ix3 j b n) = pS (A0 m c) (A1 m c) (A2 m c) (A3 m c) (A4 m c) (A5 m c) b (col j n) := by
  show poolT (tile m c j b) (ix3 0 0 n) = _
  rw [poolT_at]
  unfold pS
  simp only [tile_at]

/-- The largest magnitude of a tile. -/
theorem maxT_at (T : FVec Ideal S7x8x256 .f32) (n : Fin 256) : maxT T (ix3 0 0 n) =
    (Finset.univ : Finset (Fin 8)).fold max (Ideal.ofBits .f32 0xFF800000#32) fun w => (Finset.univ : Finset (Fin 7)).fold max (Ideal.ofBits .f32 0xFF800000#32) fun h => FloatOps.absf (F := Ideal) (φ := .f32) (T (ix3 h w n)) := by
  pointwise [maxT]

/-- The largest magnitude of one channel of one image. -/
def mK (b : Fin 4) (n : Fin 2304) : EReal :=
  (Finset.univ : Finset (Fin 8)).fold max (Ideal.ofBits .f32 0xFF800000#32) fun w => (Finset.univ : Finset (Fin 7)).fold max (Ideal.ofBits .f32 0xFF800000#32) fun h => FloatOps.absf (F := Ideal) (φ := .f32) (aK m c b h w n)

/-- The largest magnitudes. -/
theorem MX_at (j : Fin 9) (b : Fin 4) (n : Fin 256) : MX m c (ix3 j b n) = mK m c b (col j n) := by
  show maxT (tile m c j b) (ix3 0 0 n) = _
  rw [maxT_at]
  unfold mK
  simp only [tile_at]

/-- The nine loaded parts side by side. -/
theorem cat_at (v : Fin 9 → Vec Ideal S1x4x256 .f32) (j : Fin 9) (b : Fin 4) (n : Fin 256) (k : Fin 2304) (hk : k.val = 256 * j.val + n.val) :
    k0_pay90 (v 0) (v 1) (v 2) (v 3) (v 4) (v 5) (v 6) (v 7) (v 8) (ix2 b k) = v j (ix3 0 b n) := by
  have hn := n.isLt
  fin_cases j <;> pointwise [k0_pay90] <;> dsimp only at hk
  all_goals
    repeat rw [dif_neg (by omega)]
  all_goals
    try rw [dif_pos (by omega)]
  all_goals
    exact congrArg (v _) (congrArg (ix3 (0 : Fin 1) b) (Fin.ext (by first | omega | (dsimp only; omega))))

/-- A loaded part. -/
theorem part_at (S : Vec Ideal S9x4x256 .f32) (j : Fin 9) (inb : ∀ a, (![j.val, 0, 0] : Fin 3 → Nat) a + S1x4x256.size a ≤ S9x4x256.size a) (b : Fin 4) (n : Fin 256) :
    View.ld S (Rect.unit ![j.val, 0, 0] S1x4x256.size inb) (ix3 0 b n) = S (ix3 j b n) := by
  refine congrArg S (funext fun a => ?_)
  match a with
  | ⟨0, _⟩ => exact Fin.ext (by simp)
  | ⟨1, _⟩ => exact Fin.ext (by simp)
  | ⟨2, _⟩ => exact Fin.ext (by simp)

/-- Tile `j` lies inside a buffer of nine tiles. -/
theorem inb9 (j : Fin 9) : ∀ a, (![j.val, 0, 0] : Fin 3 → Nat) a + S1x4x256.size a ≤ S9x4x256.size a := by revert j; decide

/-- The nine tiles of a buffer side by side. -/
theorem cat9_at (S : Vec Ideal S9x4x256 .f32) (f : Fin 4 → Fin 2304 → EReal) (hS : ∀ j b n, S (ix3 j b n) = f b (col j n)) (b : Fin 4) (k : Fin 2304) : cat9 S (ix2 b k) = f b k := by
  have hk : k = col ⟨k.val / 256, by omega⟩ ⟨k.val % 256, by omega⟩ := Fin.ext (by show k.val = 256 * (k.val / 256) + k.val % 256; omega)
  rw [hk]
  refine (cat_at (fun j => View.ld S (Rect.unit ![j.val, 0, 0] S1x4x256.size (inb9 j))) _ b _ _ rfl).trans ?_
  rw [part_at, hS]

end Cert.Eq

end
-- ==== Proof.Eq.Quant.lean ====
module

public import proofs.«01_k».proof.Proof.Eq.Spec2

@[expose] public section

set_option maxRecDepth 16384

noncomputable section

namespace Cert.Eq

open Idealize.ShloMosaic Idealize.ShloMosaic.TcCoe Idealize.ShloMosaic.Tactic

/-- The bits of the threshold of lane `x`. -/
def thrB (x : Fin 256) : BitVec 32 :=
  IntOp.shli ArithUnit.vector (IntOp.addi (IntOp.subi (IntOp.minsi (BitVec.ofNat 32 x.val) 253#32) 127#32) 127#32) 23#32

/-- One lane of the count, given whether its threshold is reached. -/
def lane (x : Fin 256) (p : Bool) : BitVec 32 :=
  Scalar.select (IntOp.andi (IntOp.cmpi CmpIPredicate.sgt (BitVec.ofNat 32 x.val) 0#32) (BitVec.ofBool p)) 1#32 0#32

/-- The number of thresholds reached. -/
def kcnt (p : Fin 256 → Bool) : BitVec 32 := (Finset.univ : Finset (Fin 256)).fold IntOp.addi (0#32) fun x => lane x (p x)

/-- The exponent as a word, from the count. -/
def kexp (c : BitVec 32) : BitVec 32 :=
  Scalar.select (IntOp.ori (IntOp.cmpi CmpIPredicate.eq c 0#32) (IntOp.cmpi CmpIPredicate.eq c 255#32)) (0#32) (IntOp.subi c 126#32)

/-- The bits of a power of two, by its biased exponent. -/
theorem pow_bits : ∀ e : Fin 255, (((BitVec.ofNat 32 (e.val * 2 ^ 23)).extractLsb' 31 1 == 1#1) = false) ∧ ((BitVec.ofNat 32 (e.val * 2 ^ 23)).extractLsb' 23 8).toNat = e.val
    ∧ ((BitVec.ofNat 32 (e.val * 2 ^ 23)).extractLsb' 0 23).toNat = 0 := by decide +kernel

/-- The number those bits denote. -/
theorem pow_val (e : Nat) (h0 : 0 < e) (h1 : e < 255) : Ideal.ofBits .f32 (BitVec.ofNat 32 (e * 2 ^ 23)) = (((2 : ℝ) ^ ((e : ℤ) - 127) : ℝ) : EReal) := by
  obtain ⟨ha, hb, hc⟩ := pow_bits ⟨e, h1⟩
  simp only at ha hb hc
  show Ideal.ieee 8 23 (BitVec.ofNat 32 (e * 2 ^ 23)) = _
  unfold Ideal.ieee
  simp only [show 8 + 23 = 31 from rfl, ha, hb, hc]
  rw [if_neg (by omega), if_neg (by omega)]
  congr 1
  rw [show (e : ℤ) - (2 ^ (8 - 1) - 1) - ((23 : ℕ) : ℤ) = ((e : ℤ) - 127) - 23 by norm_num, zpow_sub₀ (by norm_num : (2 : ℝ) ≠ 0)]
  norm_num
  field_simp

/-- The bits of the thresholds. -/
theorem thrB_eq : ∀ x : Fin 256, thrB x = BitVec.ofNat 32 (min x.val 253 * 2 ^ 23) := by decide +kernel

/-- A threshold is a power of two. -/
theorem thr_val (x : Fin 256) (hx : 0 < x.val) : Ideal.ofBits .f32 (thrB x) = (((2 : ℝ) ^ (((min x.val 253 : ℕ) : ℤ) - 127) : ℝ) : EReal) := by
  rw [thrB_eq]
  exact pow_val _ (by omega) (by omega)

/-- A lane that is not the first counts when its threshold is reached, and the first never does. -/
theorem lane_eq : ∀ (x : Fin 256) (p : Bool), lane x p = if 0 < x.val ∧ p = true then 1#32 else 0#32 := by decide +kernel

/-- The count when the thresholds up to `m` are reached. -/
theorem cnt_nat : ∀ m : Fin 254, (∑ x : Fin 256, if 0 < x.val ∧ min x.val 253 ≤ m.val then 1 else 0) = if m.val = 253 then 255 else m.val := by decide +kernel

/-- A folded sum of lanes that count or not. -/
theorem fold_cnt (S : Finset (Fin 256)) (q : Fin 256 → Prop) [DecidablePred q] :
    S.fold IntOp.addi (0#32) (fun x => if q x then 1#32 else 0#32) = BitVec.ofNat 32 (∑ x ∈ S, if q x then 1 else 0) := by
  induction S using Finset.induction_on with
  | empty => rfl
  | insert a S ha ih =>
    rw [Finset.fold_insert ha, ih, Finset.sum_insert ha, BitVec.ofNat_add]
    by_cases h : q a
    · rw [if_pos h, if_pos h]; rfl
    · rw [if_neg h, if_neg h]; rfl

/-- The count when the thresholds up to `m` are reached, as a word. -/
theorem kcnt_eq (p : Fin 256 → Bool) (m : Fin 254) (h : ∀ x : Fin 256, 0 < x.val → (p x = true ↔ min x.val 253 ≤ m.val)) :
    kcnt p = BitVec.ofNat 32 (if m.val = 253 then 255 else m.val) := by
  rw [← cnt_nat m, ← fold_cnt]
  unfold kcnt
  refine Finset.fold_congr fun x _ => ?_
  rw [lane_eq]
  by_cases hx : 0 < x.val
  · by_cases hp : min x.val 253 ≤ m.val
    · rw [if_pos ⟨hx, (h x hx).mpr hp⟩, if_pos ⟨hx, hp⟩]
    · rw [if_neg fun hh => hp ((h x hx).mp hh.2), if_neg fun hh => hp hh.2]
  · rw [if_neg fun hh => hx hh.1, if_neg fun hh => hx hh.1]

/-- The exponent the count `m` stands for. -/
def mexp (m : Nat) : ℤ := if m = 0 ∨ m = 253 then 0 else (m : ℤ) - 126

/-- The bits of the scale, by the count. -/
theorem scale_bits : ∀ m : Fin 254, IntOp.shli ArithUnit.vector (IntOp.addi (kexp (BitVec.ofNat 32 (if m.val = 253 then 255 else m.val))) 127#32) 23#32
    = BitVec.ofNat 32 ((if m.val = 0 ∨ m.val = 253 then 127 else m.val + 1) * 2 ^ 23) := by decide +kernel

/-- The bits of the inverse scale, by the count. -/
theorem inv_bits : ∀ m : Fin 254, IntOp.shli ArithUnit.vector (IntOp.addi (IntOp.subi 0#32 (kexp (BitVec.ofNat 32 (if m.val = 253 then 255 else m.val)))) 127#32) 23#32
    = BitVec.ofNat 32 ((if m.val = 0 ∨ m.val = 253 then 127 else 253 - m.val) * 2 ^ 23) := by decide +kernel

/-- The scale, by the count. -/
theorem scale_val (m : Fin 254) : Ideal.ofBits .f32 (IntOp.shli ArithUnit.vector (IntOp.addi (kexp (BitVec.ofNat 32 (if m.val = 253 then 255 else m.val))) 127#32) 23#32)
    = (((2 : ℝ) ^ (mexp m.val) : ℝ) : EReal) := by
  have hm := m.isLt
  rw [scale_bits, pow_val _ (by split_ifs <;> omega) (by split_ifs <;> omega)]
  congr 2
  unfold mexp
  split_ifs <;> push_cast <;> omega

/-- The inverse scale, by the count. -/
theorem inv_val (m : Fin 254) : Ideal.ofBits .f32 (IntOp.shli ArithUnit.vector (IntOp.addi (IntOp.subi 0#32 (kexp (BitVec.ofNat 32 (if m.val = 253 then 255 else m.val)))) 127#32) 23#32)
    = (((2 : ℝ) ^ (-mexp m.val) : ℝ) : EReal) := by
  have hm := m.isLt
  rw [inv_bits, pow_val _ (by split_ifs <;> omega) (by split_ifs <;> omega)]
  congr 2
  unfold mexp
  split_ifs <;> omega

/-- The lower end of the range of exponents. -/
theorem lo_val : Ideal.ofBits .f32 0x00800000#32 = (((2 : ℝ) ^ (-126 : ℤ) : ℝ) : EReal) := by
  have := pow_val 1 (by omega) (by omega)
  exact this

/-- The upper end of the range of exponents. -/
theorem hi_val : Ideal.ofBits .f32 0x7E800000#32 = (((2 : ℝ) ^ (126 : ℤ) : ℝ) : EReal) := by
  have := pow_val 253 (by omega) (by omega)
  exact this

/-- Two. -/
theorem two_val : Ideal.ofBits .f32 0x40000000#32 = ((2 : ℝ) : EReal) := by
  have := pow_val 128 (by omega) (by omega)
  refine this.trans ?_
  norm_num

/-- Outside the range the exponent is zero. -/
theorem expS_out (t : EReal) (h : ¬ (Ideal.ofBits .f32 0x00800000#32 ≤ t ∧ t < Ideal.ofBits .f32 0x7E800000#32)) : expS t = 0 := by
  unfold expS
  by_cases h1 : Ideal.ofBits .f32 0x00800000#32 ≤ t
  · have h2 : ¬ t < Ideal.ofBits .f32 0x7E800000#32 := fun hh => h ⟨h1, hh⟩
    rw [decide_eq_true h1, decide_eq_false h2]; rfl
  · rw [decide_eq_false h1]
    by_cases h2 : t < Ideal.ofBits .f32 0x7E800000#32
    · rw [decide_eq_true h2]; rfl
    · rw [decide_eq_false h2]; rfl

/-- The whole part of the logarithm to base two. -/
def lg (r : ℝ) : ℤ := ⌊Real.log r / Real.log 2⌋

/-- The powers of two up to a positive number. -/
theorem le_lg (z : ℤ) {r : ℝ} (hr : 0 < r) : (2 : ℝ) ^ z ≤ r ↔ z ≤ lg r := by
  unfold lg
  rw [Int.le_floor, le_div_iff₀ (Real.log_pos (by norm_num)), ← Real.log_zpow, Real.log_le_log_iff (by positivity) hr]

/-- Inside the range it is one more than the whole part of the logarithm to base two. -/
theorem expS_in (r : ℝ) (hr : 0 < r) (h1 : Ideal.ofBits .f32 0x00800000#32 ≤ (r : EReal)) (h2 : (r : EReal) < Ideal.ofBits .f32 0x7E800000#32) :
    expS (r : EReal) = (((lg r + 1 : ℤ) : ℝ) : EReal) := by
  unfold expS
  rw [decide_eq_true h1, decide_eq_true h2, two_val]
  show Ideal.liftRound Int.floor (Ideal.div (if r ≤ 0 then ⊥ else (Real.log r : EReal)) (if (2 : ℝ) ≤ 0 then ⊥ else (Real.log 2 : EReal))) + 1 = _
  rw [if_neg (not_le.mpr hr), if_neg (by norm_num), Ideal.div_coe (ne_of_gt (Real.log_pos (by norm_num))), ← EReal.coe_mul]
  show (((⌊Real.log r * (1 / Real.log 2)⌋ : ℤ) : ℝ) : EReal) + 1 = _
  rw [mul_one_div, show ⌊Real.log r / Real.log 2⌋ = lg r from rfl]
  push_cast
  rfl

/-- Every number has a count, and the count stands for its exponent. -/
theorem count (t : EReal) : ∃ m : Fin 254, (∀ x : Fin 256, 0 < x.val → (Ideal.ofBits .f32 (thrB x) ≤ t ↔ min x.val 253 ≤ m.val)) ∧ expS t = ((mexp m.val : ℝ) : EReal) := by
  have hmono : ∀ a b : ℤ, a ≤ b → (((2 : ℝ) ^ a : ℝ) : EReal) ≤ (((2 : ℝ) ^ b : ℝ) : EReal) := fun a b hab =>
    EReal.coe_le_coe_iff.mpr (zpow_le_zpow_right₀ (by norm_num) hab)
  by_cases h1 : Ideal.ofBits .f32 0x00800000#32 ≤ t
  · by_cases h2 : t < Ideal.ofBits .f32 0x7E800000#32
    · induction t with
      | bot => exact absurd (lo_val ▸ h1) (by simp)
      | top => exact absurd (hi_val ▸ h2) (by simp)
      | coe r =>
        have hlo : (2 : ℝ) ^ (-126 : ℤ) ≤ r := EReal.coe_le_coe_iff.mp (lo_val ▸ h1)
        have hhi : r < (2 : ℝ) ^ (126 : ℤ) := EReal.coe_lt_coe_iff.mp (hi_val ▸ h2)
        have hr : 0 < r := lt_of_lt_of_le (by positivity) hlo
        have hq1 : (-126 : ℤ) ≤ lg r := (le_lg _ hr).mp hlo
        have hq2 : lg r < 126 := not_le.mp fun hh => not_le.mpr hhi ((le_lg _ hr).mpr hh)
        refine ⟨⟨(lg r + 127).toNat, by omega⟩, fun x hx => ?_, ?_⟩
        · rw [thr_val x hx, EReal.coe_le_coe_iff]
          refine Iff.trans (b := (((min x.val 253 : ℕ) : ℤ) - 127 ≤ lg r)) ?_ ?_
          · exact le_lg _ hr
          · show _ ↔ min x.val 253 ≤ (lg r + 127).toNat
            omega
        · rw [expS_in r hr h1 h2]
          have : lg r + 1 = mexp (lg r + 127).toNat := by
            unfold mexp
            rw [if_neg (by omega)]
            omega
          rw [this]
    · refine ⟨⟨253, by omega⟩, fun x hx => ⟨fun _ => by show min x.val 253 ≤ 253; omega, fun _ => ?_⟩, ?_⟩
      · rw [thr_val x hx]
        refine le_trans (hmono _ 126 (by omega)) ?_
        rw [← hi_val]; exact not_lt.mp h2
      · rw [expS_out t fun hh => h2 hh.2]
        simp [mexp]
  · refine ⟨⟨0, by omega⟩, fun x hx => ⟨fun hh => absurd (le_trans ?_ hh) h1, fun hh => ?_⟩, ?_⟩
    · rw [thr_val x hx, lo_val]
      exact hmono _ _ (by omega)
    · have : min x.val 253 ≤ 0 := hh
      omega
    · rw [expS_out t fun hh => h1 hh.1]
      simp [mexp]

/-- The count of the thresholds a number reaches. -/
def tcnt (t : EReal) : BitVec 32 := kcnt fun x => decide (Ideal.ofBits .f32 (thrB x) ≤ t)

/-- The scale from the count is two to the exponent. -/
theorem scale_eq (t : EReal) : Ideal.ofBits .f32 (IntOp.shli ArithUnit.vector (IntOp.addi (kexp (tcnt t)) 127#32) 23#32) = Ideal.exp2 (expS t) := by
  obtain ⟨m, hm, he⟩ := count t
  unfold tcnt
  rw [kcnt_eq _ m (fun x hx => by rw [decide_eq_true_iff]; exact hm x hx), scale_val, he]
  show _ = ((Real.rpow 2 (mexp m.val : ℝ) : ℝ) : EReal)
  rw [← Real.rpow_intCast]
  rfl

/-- The inverse scale from the count is two to the exponent negated. -/
theorem inv_eq (t : EReal) : Ideal.ofBits .f32 (IntOp.shli ArithUnit.vector (IntOp.addi (IntOp.subi 0#32 (kexp (tcnt t))) 127#32) 23#32) = Ideal.exp2 (0 - expS t) := by
  obtain ⟨m, hm, he⟩ := count t
  unfold tcnt
  rw [kcnt_eq _ m (fun x hx => by rw [decide_eq_true_iff]; exact hm x hx), inv_val, he, zero_sub, ← EReal.coe_neg]
  show _ = ((Real.rpow 2 (-(mexp m.val : ℝ)) : ℝ) : EReal)
  rw [← Real.rpow_intCast]
  push_cast
  rfl

end Cert.Eq

end
-- ==== Proof.Eq.KQ.lean ====
module

public import proofs.«01_k».proof.Proof.Eq.KAct
public import proofs.«01_k».proof.Proof.Eq.Quant

@[expose] public section

set_option maxRecDepth 16384

noncomputable section

namespace Cert.Eq

open Idealize.ShloMosaic Idealize.ShloMosaic.TcCoe Idealize.ShloMosaic.Tactic
open Cert.KernelIdeal Cert.KernelIdeal.Gen Cert.KernelIdeal.Body

/-- The number whose exponent the first quantiser takes. -/
theorem p91_at (v0 v1 v2 v3 v4 v5 v6 v7 v8 : Vec Ideal S1x4x256 .f32) (b : Fin 4) (f : Fin 2304 → EReal) (hC : ∀ n, k0_pay90 v0 v1 v2 v3 v4 v5 v6 v7 v8 (ix2 b n) = f n) :
    k0_pay91 v0 v1 v2 v3 v4 v5 v6 v7 v8 (ix2 b 0) = topS f * Ideal.ofBits .f32 0x3B124925#32 := by
  unfold k0_pay91
  generalize k0_pay90 v0 v1 v2 v3 v4 v5 v6 v7 v8 = C at *
  pointwise
  simp only [hC]
  rfl

/-- The first scale, from the number whose exponent it takes. -/
theorem p94_at (T : FVec Ideal S4x1 .f32) (b : Fin 4) (t : EReal) (hT : T (ix2 b 0) = t) : k0_pay94 lanes T k0_pay92 (ix2 b 0) = Ideal.exp2 (expS t) := by
  pointwise [k0_pay94, k0_pay93, lanes, k0_pay92]
  rw [← hT]
  exact scale_eq _

/-- The scaled vector of the first quantiser, bounded below. -/
theorem p95_at (C : FVec Ideal S4x2304 .f32) (T : FVec Ideal S4x1 .f32) (b : Fin 4) (n : Fin 2304) (t : EReal) (hT : T (ix2 b 0) = t) :
    k0_pay95 C lanes T k0_pay92 (ix2 b n) = max (Ideal.ofBits .f32 0xC3E00000#32) (C (ix2 b n) * Ideal.exp2 (0 - expS t)) := by
  pointwise [k0_pay95, k0_pay93, lanes, k0_pay92]
  rw [← hT, ← inv_eq]
  rfl

/-- The upper bound. -/
theorem p96_at (x : EReal) (V : FVec Ideal S4x2304 .f32) (b : Fin 4) (n : Fin 2304) : k0_pay96 (F := Ideal) x V (ix2 b n) = min x (V (ix2 b n)) := by
  pointwise [k0_pay96]

/-- The hidden layer, from a scale and a code. -/
theorem p97_at (P : FVec Ideal S4x1 .f32) (x : EReal) (V : FVec Ideal S4x2304 .f32) (W : Vec Ideal S2304x384 .fp8e4m3) (w8 b8 : Vec Ideal S1x384 .f32) (b : Fin 4) (k : Fin 384)
    (p : EReal) (cd : Fin 2304 → EReal) (hP : P (ix2 b 0) = p) (hV : ∀ n, k0_pay96 (F := Ideal) x V (ix2 b n) = cd n) :
    k0_pay97 (F := Ideal) P x V W w8 b8 (ix2 b k) = linS cd p (fun x y => (W (ix2 x y) : EReal)) (fun y => (w8 (ix2 0 y) : EReal)) (fun y => (b8 (ix2 0 y) : EReal)) k
      * Ideal.logistic (linS cd p (fun x y => (W (ix2 x y) : EReal)) (fun y => (w8 (ix2 0 y) : EReal)) (fun y => (b8 (ix2 0 y) : EReal)) k) := by
  unfold k0_pay97
  generalize k0_pay96 (F := Ideal) x V = C at *
  pointwise
  simp only [hV, hP]
  rfl

/-- The comparisons of the second quantiser. -/
theorem p98_at (P : FVec Ideal S4x1 .f32) (x : EReal) (V : FVec Ideal S4x2304 .f32) (W : Vec Ideal S2304x384 .fp8e4m3) (w8 b8 : Vec Ideal S1x384 .f32) (b : Fin 4) (l : Fin 256) (f : Fin 384 → EReal)
    (hH : ∀ k, k0_pay97 (F := Ideal) P x V W w8 b8 (ix2 b k) = f k) :
    k0_pay98 (F := Ideal) P x V W w8 b8 (ix2 b l) = BitVec.ofBool (decide (Ideal.ofBits .f32 (thrB l) ≤ topS f * Ideal.ofBits .f32 0x3B124925#32)) := by
  unfold k0_pay98
  generalize k0_pay97 (F := Ideal) P x V W w8 b8 = H at *
  pointwise
  simp only [hH]
  rfl

/-- The second scale, from the comparisons. -/
theorem p101_at (C : IVec S4x256 1) (b : Fin 4) (t : EReal) (hC : ∀ l, C (ix2 b l) = BitVec.ofBool (decide (Ideal.ofBits .f32 (thrB l) ≤ t))) :
    k0_pay101 (F := Ideal) lanes C k0_pay99 (ix2 b 0) = Ideal.exp2 (expS t) := by
  pointwise [k0_pay101, k0_pay100, lanes, k0_pay99]
  simp only [hC]
  exact scale_eq _

/-- The second code, from the comparisons. -/
theorem p102_at (H : FVec Ideal S4x384 .f32) (C : IVec S4x256 1) (b : Fin 4) (k : Fin 384) (t : EReal) (hC : ∀ l, C (ix2 b l) = BitVec.ofBool (decide (Ideal.ofBits .f32 (thrB l) ≤ t))) :
    k0_pay102 (F := Ideal) H lanes C k0_pay99 (ix2 b k) = min (Ideal.ofBits .f32 0x43E00000#32) (max (Ideal.ofBits .f32 0xC3E00000#32) (H (ix2 b k) * Ideal.exp2 (0 - expS t))) := by
  pointwise [k0_pay102, k0_pay100, lanes, k0_pay99]
  simp only [hC]
  rw [← inv_eq]
  rfl

/-- The gate, from a scale and a code. -/
theorem p103_at (P : FVec Ideal S4x1 .f32) (C : FVec Ideal S4x384 .fp8e4m3) (W : Vec Ideal S384x2304 .fp8e4m3) (w8 b8 : Vec Ideal S1x2304 .f32) (b : Fin 4) (k : Fin 2304)
    (p : EReal) (cd : Fin 384 → EReal) (hP : P (ix2 b 0) = p) (hC : ∀ n, C (ix2 b n) = cd n) :
    k0_pay103 (F := Ideal) P C W w8 b8 (ix2 b k) = Ideal.logistic (linS cd p (fun x y => (W (ix2 x y) : EReal)) (fun y => (w8 (ix2 0 y) : EReal)) (fun y => (b8 (ix2 0 y) : EReal)) k) := by
  pointwise [k0_pay103]
  simp only [hC, hP]
  rfl

variable (m : (ℓ : Loc nD τ sig) → Buf (Elt Ideal) ℓ) (c : Dev nD)

/-- The means, the hidden layer and the gate by image and channel. -/
abbrev pK (b : Fin 4) (n : Fin 2304) : EReal := pS (A0 m c) (A1 m c) (A2 m c) (A3 m c) (A4 m c) (A5 m c) b n
@[inherit_doc pK] abbrev hK (b : Fin 4) (n : Fin 384) : EReal := hS (A0 m c) (A1 m c) (A2 m c) (A3 m c) (A4 m c) (A5 m c) (A6 m c) (A7 m c) (A8 m c) b n
@[inherit_doc pK] abbrev gK (b : Fin 4) (n : Fin 2304) : EReal := gS (A0 m c) (A1 m c) (A2 m c) (A3 m c) (A4 m c) (A5 m c) (A6 m c) (A7 m c) (A8 m c) (A9 m c) (A10 m c) (A11 m c) b n

/-- The means side by side. -/
theorem catP (b : Fin 4) (n : Fin 2304) : cat9 (POOL m c) (ix2 b n) = pK m c b n := cat9_at _ (pK m c) (POOL_at m c) b n

/-- The number whose exponent the first quantiser takes, from the means. -/
theorem tP_at (b : Fin 4) : tP (POOL m c) (ix2 b 0) = topS (pK m c b) * Ideal.ofBits .f32 0x3B124925#32 :=
  p91_at _ _ _ _ _ _ _ _ _ b (pK m c b) (catP m c b)

/-- The scales of the means. -/
theorem rPs_at (b : Fin 4) : ps (POOL m c) (ix2 b 0) = scaleS (pK m c b) := p94_at _ b _ (tP_at m c b)

/-- The quantised means. -/
theorem rPc_at (b : Fin 4) (n : Fin 2304) : pc (POOL m c) (ix2 b n) = codeS (pK m c b) n := by
  unfold pc pv
  rw [p96_at, p95_at _ _ b n _ (tP_at m c b), catP]
  rfl

/-- The hidden layer. -/
theorem hid_at (t : Fin 9) (b : Fin 4) (k : Fin 384) : hid (POOL m c) (iblk m c 6 (pt t)) (iblk m c 7 (pt t)) (iblk m c 8 (pt t)) (ix2 b k) = hK m c b k := by
  unfold hid
  rw [View.ld_unit_zero (by decide), View.ld_unit_zero (by decide), View.ld_unit_zero (by decide), p97_at _ _ _ _ _ _ b k _ _ (rPs_at m c b) (rPc_at m c b)]
  simp only [blk6, blk7, blk8]
  rfl

/-- The comparisons of the second quantiser, from the hidden layer. -/
theorem hcmp_at (t : Fin 9) (b : Fin 4) (l : Fin 256) : hcmp (POOL m c) (iblk m c 6 (pt t)) (iblk m c 7 (pt t)) (iblk m c 8 (pt t)) (ix2 b l)
    = BitVec.ofBool (decide (Ideal.ofBits .f32 (thrB l) ≤ topS (hK m c b) * Ideal.ofBits .f32 0x3B124925#32)) :=
  p98_at _ _ _ _ _ _ b l (hK m c b) (hid_at m c t b)

/-- The scales of the hidden layer. -/
theorem rHs_at (t : Fin 9) (b : Fin 4) : hs (POOL m c) (iblk m c 6 (pt t)) (iblk m c 7 (pt t)) (iblk m c 8 (pt t)) (ix2 b 0) = scaleS (hK m c b) :=
  p101_at _ b _ (hcmp_at m c t b)

/-- The quantised hidden layer. -/
theorem rHc_at (t : Fin 9) (b : Fin 4) (k : Fin 384) : hc (POOL m c) (iblk m c 6 (pt t)) (iblk m c 7 (pt t)) (iblk m c 8 (pt t)) (ix2 b k) = codeS (hK m c b) k := by
  unfold hc
  rw [p102_at _ _ b k _ (hcmp_at m c t b), hid_at]
  rfl

/-- The gate. -/
theorem gate_at (t : Fin 9) (b : Fin 4) (k : Fin 2304) :
    gate (POOL m c) (iblk m c 6 (pt t)) (iblk m c 7 (pt t)) (iblk m c 8 (pt t)) (iblk m c 9 (pt t)) (iblk m c 10 (pt t)) (iblk m c 11 (pt t)) (ix2 b k) = gK m c b k := by
  unfold gate
  rw [View.ld_unit_zero (by decide), View.ld_unit_zero (by decide), View.ld_unit_zero (by decide), p103_at _ _ _ _ _ b k _ _ (rHs_at m c t b) (rHc_at m c t b)]
  simp only [blk9, blk10, blk11]
  rfl

end Cert.Eq

end
-- ==== Proof.Eq.KY.lean ====
module

public import proofs.«01_k».proof.Proof.Eq.KQ

@[expose] public section

set_option maxRecDepth 16384

noncomputable section

namespace Cert.Eq

open Idealize.ShloMosaic Idealize.ShloMosaic.TcCoe Idealize.ShloMosaic.Tactic
open Cert.KernelIdeal Cert.KernelIdeal.Gen Cert.KernelIdeal.Body

/-! ## The order facts the two maxima need -/

/-- The start of a maximum lies below everything. -/
theorem init_bot : Ideal.ofBits .f32 0xFF800000#32 = (⊥ : EReal) := by
  simp [Ideal.ofBits, Ideal.ieee]

/-- The logistic of a number is not negative. -/
theorem logistic_nonneg (x : EReal) : 0 ≤ Ideal.logistic x := by
  unfold Ideal.logistic Ideal.div
  have he : 0 ≤ Ideal.exp (-x) := by
    induction (-x) with
    | bot => exact le_refl _
    | top => exact le_top
    | coe r => exact EReal.coe_nonneg.mpr (Real.exp_pos r).le
  split_ifs with h1 h2
  · exact le_top
  · exact absurd zero_lt_one h2
  · exact mul_nonneg zero_le_one (EReal.inv_nonneg_of_nonneg (add_nonneg zero_le_one he))

/-- Multiplying by a number that is not negative keeps the order. -/
theorem mono_mul {g : EReal} (hg : 0 ≤ g) : Monotone fun x : EReal => x * g := fun a b h => mul_le_mul_of_nonneg_right h hg

/-- The magnitude of a product with a number that is not negative. -/
theorem abs_mul (a : EReal) {g : EReal} (hg : 0 ≤ g) :
    FloatOps.absf (F := Ideal) (φ := .f32) (a * g) = FloatOps.absf (F := Ideal) (φ := .f32) a * g := by
  show max (a * g) (-(a * g)) = max a (-a) * g
  rw [← EReal.neg_mul]
  exact ((mono_mul hg).map_max).symm

/-- A magnitude reached by the maximum over rows and columns. -/
theorem fold2_reached (f : Fin 8 → Fin 7 → EReal) :
    ∃ w h, (Finset.univ : Finset (Fin 8)).fold max (Ideal.ofBits .f32 0xFF800000#32) (fun w => (Finset.univ : Finset (Fin 7)).fold max (Ideal.ofBits .f32 0xFF800000#32) fun h => f w h) ≤ f w h := by
  rw [init_bot]
  rcases (Finset.le_fold_max _).mp (le_refl ((Finset.univ : Finset (Fin 8)).fold max ⊥ (fun w => (Finset.univ : Finset (Fin 7)).fold max ⊥ fun h => f w h))) with h | ⟨w, _, hw⟩
  · exact ⟨0, 0, le_trans h bot_le⟩
  · rcases (Finset.le_fold_max _).mp hw with h | ⟨h, _, hh⟩
    · exact ⟨0, 0, le_trans h bot_le⟩
    · exact ⟨w, h, hh⟩

/-- Every magnitude lies below the maximum over rows and columns. -/
theorem le_fold2 (f : Fin 8 → Fin 7 → EReal) (w : Fin 8) (h : Fin 7) :
    f w h ≤ (Finset.univ : Finset (Fin 8)).fold max (Ideal.ofBits .f32 0xFF800000#32) (fun w => (Finset.univ : Finset (Fin 7)).fold max (Ideal.ofBits .f32 0xFF800000#32) fun h => f w h) :=
  (Finset.le_fold_max _).mpr (.inr ⟨w, Finset.mem_univ _, (Finset.le_fold_max _).mpr (.inr ⟨h, Finset.mem_univ _, le_refl _⟩)⟩)

/-! ## The output scale -/

/-- The output scale from nine tiles side by side and the gate. -/
def yscT (v431 : FVec Ideal S4x2304 .f32) (v411 : FVec Ideal S4x2304 .f32) : EReal :=
  have v432 : FVec Ideal S4x2304 .f32 := mulf v431 v411
  have v433 : FVec Ideal S1x4x2304 .f32 := shapeCast S1x4x2304 v432 shapeCasts_S4x2304_S1x4x2304
  have v434 : FVec Ideal S1 .f32 := multiReduction .maximumf [1, 2] S1 v433 0xFF800000#32 reduces_S1x4x2304_S1 (.inl rfl) rfl
  have v435 : FVec Ideal S1x1x1 .f32 := shapeCast S1x1x1 v434 shapeCasts_S1_S1x1x1
  have v436 : EReal := extractAt ![0, 0, 0] v435 inpos_S1x1x1_p0_0_0
  Scalar.select (Scalar.cmpf (F := Ideal) (φ := .f32) .oeq v436 (Scalar.ofBits (F := Ideal) .f32 0x00000000#32)) (Scalar.ofBits (F := Ideal) .f32 0x3F800000#32) (Scalar.divf (F := Ideal) (φ := .f32) v436 (Scalar.ofBits (F := Ideal) .f32 0x42FE0000#32))

/-- The kernel takes the output scale of its nine tiles side by side. -/
theorem ysc_eq (S : Vec Ideal S9x4x256 .f32) (g : FVec Ideal S4x2304 .f32) : ysc S g = yscT (cat9 S) g := rfl

/-- The output scale, over any magnitudes and gate. -/
theorem yscT_at (C g : FVec Ideal S4x2304 .f32) :
    yscT C g = yscS ((Finset.univ : Finset (Fin 4 × Fin 2304)).fold max (Ideal.ofBits .f32 0xFF800000#32) fun x => C (ix2 x.1 x.2) * g (ix2 x.1 x.2)) := by
  pointwise [yscT]
  rfl

variable (m : (ℓ : Loc nD τ sig) → Buf (Elt Ideal) ℓ) (c : Dev nD)

/-- The largest magnitude of the gated activation of the arguments. -/
abbrev topYK : EReal := topYS (A0 m c) (A1 m c) (A2 m c) (A3 m c) (A4 m c) (A5 m c) (A6 m c) (A7 m c) (A8 m c) (A9 m c) (A10 m c) (A11 m c)

/-- The gate is not negative. -/
theorem gK_nonneg (b : Fin 4) (n : Fin 2304) : 0 ≤ gK m c b n := logistic_nonneg _

/-- Gating the largest magnitudes and taking the largest magnitude of the gated activation give the same. -/
theorem top_eq : ((Finset.univ : Finset (Fin 4 × Fin 2304)).fold max (Ideal.ofBits .f32 0xFF800000#32) fun x => mK m c x.1 x.2 * gK m c x.1 x.2) = topYK m c := by
  unfold topYK topYS
  refine le_antisymm ?_ ?_
  · refine (Finset.fold_max_le _).mpr ⟨by rw [init_bot]; exact bot_le, fun x _ => ?_⟩
    obtain ⟨w, h, hh⟩ := fold2_reached fun w h => FloatOps.absf (F := Ideal) (φ := .f32) (aK m c x.1 h w x.2)
    refine (Finset.le_fold_max _).mpr (.inr ⟨(x.1, h, w, x.2), Finset.mem_univ _, ?_⟩)
    rw [abs_mul _ (gK_nonneg m c x.1 x.2)]
    exact mono_mul (gK_nonneg m c x.1 x.2) hh
  · refine (Finset.fold_max_le _).mpr ⟨by rw [init_bot]; exact bot_le, fun x _ => ?_⟩
    refine (Finset.le_fold_max _).mpr (.inr ⟨(x.1, x.2.2.2), Finset.mem_univ _, ?_⟩)
    rw [abs_mul _ (gK_nonneg m c x.1 x.2.2.2)]
    exact mono_mul (gK_nonneg m c x.1 x.2.2.2) (le_fold2 (fun w h => FloatOps.absf (F := Ideal) (φ := .f32) (aK m c x.1 h w x.2.2.2)) x.2.2.1 x.2.1)

/-- The gate of the kernel. -/
theorem rG_at (b : Fin 4) (n : Fin 2304) : rG m c (ix2 b n) = gK m c b n := gate_at m c 8 b n

/-- The output scale of the kernel. -/
theorem ysc_at : ysc (MX m c) (rG m c) = yscS (topYK m c) := by
  rw [ysc_eq, yscT_at, ← top_eq]
  simp only [rG_at, cat9_at _ (mK m c) (MX_at m c)]

/-! ## The 8-bit output -/

/-- A loaded tile of activations. -/
theorem act_ld (S : Vec Ideal S9x4x7x8x256 .f32) (j : Fin 9) (b : Fin 4) (inb : ∀ a, (![j.val, b.val, 0, 0, 0] : Fin 5 → Nat) a + S1x1x7x8x256.size a ≤ S9x4x7x8x256.size a) (h : Fin 7) (w : Fin 8) (n : Fin 256) :
    View.ld S (Rect.unit ![j.val, b.val, 0, 0, 0] S1x1x7x8x256.size inb) (ix5 0 0 h w n) = S (ix5 j b h w n) := by
  refine congrArg S (funext fun a => ?_)
  match a with
  | ⟨0, _⟩ => exact Fin.ext (by simp)
  | ⟨1, _⟩ => exact Fin.ext (by simp)
  | ⟨2, _⟩ => exact Fin.ext (by simp)
  | ⟨3, _⟩ => exact Fin.ext (by simp)
  | ⟨4, _⟩ => exact Fin.ext (by simp)

/-- A tile of the result, from a loaded tile of activations and a row of the gate. -/
def yV (V : Vec Ideal S1x1x7x8x256 .f32) (G : FVec Ideal S1x256 .f32) (y : EReal) : IVec S1x7x8x256 8 :=
  shapeCast S1x7x8x256 (fptosi (F := Ideal) (φ := .f32) 8 (minimumf (broadcast S7x8x256 (Scalar.ofBits .f32 0x42FE0000#32)) (maximumf (broadcast S7x8x256 (Scalar.ofBits .f32 0xC2FE0000#32))
    (roundeven (divf (mulf (shapeCast S7x8x256 V shapeCasts_S1x1x7x8x256_S7x8x256)
      (broadcastTo S7x8x256 (shapeCast S1x1x256 G shapeCasts_S1x256_S1x1x256) broadcasts_S1x1x256_S7x8x256))
      (broadcast S7x8x256 y)))))) shapeCasts_S7x8x256_S1x7x8x256

/-- An element of that tile. -/
theorem yV_at (V : Vec Ideal S1x1x7x8x256 .f32) (G : FVec Ideal S1x256 .f32) (y : EReal) (h : Fin 7) (w : Fin 8) (n : Fin 256) :
    yV V G y (ix4 0 h w n) = yS (V (ix5 0 0 h w n) * G (ix2 0 n)) y := by
  pointwise [yV]
  rfl

/-- A row of the gate. -/
theorem gate_row (g : FVec Ideal S4x2304 .f32) (b : Fin 4) (j : Fin 9) (n : Fin 256) (hs : S4x2304.Slices ![b.val, 256 * j.val] S1x256) :
    extractStridedSlice S1x256 ![b.val, 256 * j.val] g hs (ix2 0 n) = g (ix2 b (col j n)) := by
  unfold extractStridedSlice
  refine congrArg g (funext fun a => ?_)
  match a with
  | ⟨0, _⟩ => exact Fin.ext (by simp)
  | ⟨1, _⟩ => exact Fin.ext (by simp [col])

/-- An element of a tile of the result. -/
theorem yT_at (S : Vec Ideal S9x4x7x8x256 .f32) (g : FVec Ideal S4x2304 .f32) (y : EReal) (b : Fin 4) (j : Fin 9) (h : Fin 7) (w : Fin 8) (n : Fin 256) :
    yT (F := Ideal) S g y b j (ix4 0 h w n) = yS (S (ix5 j b h w n) * g (ix2 b (col j n))) y := by
  refine (yV_at _ _ y h w n).trans ?_
  rw [act_ld S j b (inb1 j b), gate_row]

/-- An element of the 8-bit result of the kernel. -/
theorem rY_at (b : Fin 4) (h : Fin 7) (w : Fin 8) (n : Fin 2304) : rY m c (ix4 b h w n) = yS (aK m c b h w n * gK m c b n) (yscS (topYK m c)) := by
  have hk : n = col ⟨n.val / 256, by omega⟩ ⟨n.val % 256, by omega⟩ := Fin.ext (by show n.val = 256 * (n.val / 256) + n.val % 256; omega)
  refine (yAll_at (ACT m c) (rG m c) (ysc (MX m c) (rG m c)) (ix4 b h w n) b ⟨n.val / 256, by omega⟩ (ix4 0 h w ⟨n.val % 256, by omega⟩) rfl rfl rfl (congrArg Fin.val hk)).symm.trans ?_
  rw [yT_at, ysc_at, rG_at, ← hk]
  have ha : ACT m c (ix5 ⟨n.val / 256, by omega⟩ b h w ⟨n.val % 256, by omega⟩) = aK m c b h w n := by
    rw [show aK m c b h w n = aK m c b h w (col ⟨n.val / 256, by omega⟩ ⟨n.val % 256, by omega⟩) from congrArg _ hk]
    exact tile_at m c _ b h w _
  rw [ha]

end Cert.Eq

end
-- ==== Proof.Eq.Algebraic.lean ====
module

public import proofs.«01_k».proof.Proof.Eq.RefG
public import proofs.«01_k».proof.Proof.Eq.KY
public import proofs.«01_k».proof.Proof.KI.Final
public import proofs.«01_k».proof.Defs

@[expose] public section

set_option maxRecDepth 16384

noncomputable section

namespace Cert.Eq

open Idealize.ShloMosaic Idealize.ShloMosaic.TcCoe Idealize.SL.Sem
open Cert.KernelIdeal Cert.KernelIdeal.Body

variable (m : (ℓ : Loc nD τ sig) → Buf (Elt Ideal) ℓ) (c : Dev nD)

/-- An index of rank two by its coordinates. -/
theorem ix2_eta {p q : Nat} (i : (⟨2, ![p, q]⟩ : Shape).Idx) : i = ix2 (i 0 : Fin p) (i 1 : Fin q) := by
  funext a
  match a with
  | ⟨0, _⟩ => rfl
  | ⟨1, _⟩ => rfl

/-- An index of a column by its row. -/
theorem ix2_col {p : Nat} (i : (⟨2, ![p, 1]⟩ : Shape).Idx) : i = ix2 (i 0 : Fin p) (0 : Fin 1) := by
  funext a
  match a with
  | ⟨0, _⟩ => rfl
  | ⟨1, _⟩ => exact Subsingleton.elim (α := Fin 1) _ _

/-- An index of rank four by its coordinates. -/
theorem ix4_eta {p q r s : Nat} (i : (⟨4, ![p, q, r, s]⟩ : Shape).Idx) : i = ix4 (i 0 : Fin p) (i 1 : Fin q) (i 2 : Fin r) (i 3 : Fin s) := by
  funext a
  match a with
  | ⟨0, _⟩ => rfl
  | ⟨1, _⟩ => rfl
  | ⟨2, _⟩ => rfl
  | ⟨3, _⟩ => rfl

/-- The 8-bit results agree. -/
theorem eq12 : Cert.ReferenceIdeal.Value.G12 (A0 m c) (A1 m c) (A2 m c) (A3 m c) (A4 m c) (A5 m c) (A6 m c) (A7 m c) (A8 m c) (A9 m c) (A10 m c) (A11 m c) = rY m c := by
  funext i
  rw [ix4_eta i]
  exact (g12 (A0 m c) (A1 m c) (A2 m c) (A3 m c) (A4 m c) (A5 m c) (A6 m c) (A7 m c) (A8 m c) (A9 m c) (A10 m c) (A11 m c) _ _ _ _).trans (rY_at m c _ _ _ _).symm

/-- Their scales agree. -/
theorem eq13 : Cert.ReferenceIdeal.Value.G13 (A0 m c) (A1 m c) (A2 m c) (A3 m c) (A4 m c) (A5 m c) (A6 m c) (A7 m c) (A8 m c) (A9 m c) (A10 m c) (A11 m c) = rYs m c := by
  funext i
  exact (g13 (A0 m c) (A1 m c) (A2 m c) (A3 m c) (A4 m c) (A5 m c) (A6 m c) (A7 m c) (A8 m c) (A9 m c) (A10 m c) (A11 m c) i).trans (ysc_at m c).symm

/-- The gates agree. -/
theorem eq14 : Cert.ReferenceIdeal.Value.G14 (A0 m c) (A1 m c) (A2 m c) (A3 m c) (A4 m c) (A5 m c) (A6 m c) (A7 m c) (A8 m c) (A9 m c) (A10 m c) (A11 m c) = rG m c := by
  funext i
  rw [ix2_eta i]
  exact (r26 (A0 m c) (A1 m c) (A2 m c) (A3 m c) (A4 m c) (A5 m c) (A6 m c) (A7 m c) (A8 m c) (A9 m c) (A10 m c) (A11 m c) _ _).trans (rG_at m c _ _).symm

/-- The quantised means agree. -/
theorem eq15 : Cert.ReferenceIdeal.Value.G15 (A0 m c) (A1 m c) (A2 m c) (A3 m c) (A4 m c) (A5 m c) (A6 m c) (A7 m c) (A8 m c) (A9 m c) (A10 m c) (A11 m c) = rPc m c := by
  funext i
  rw [ix2_eta i]
  exact (r25 (A0 m c) (A1 m c) (A2 m c) (A3 m c) (A4 m c) (A5 m c) (A6 m c) (A7 m c) (A8 m c) (A9 m c) (A10 m c) (A11 m c) _ _).trans (rPc_at m c _ _).symm

/-- Their scales agree. -/
theorem eq16 : Cert.ReferenceIdeal.Value.G16 (A0 m c) (A1 m c) (A2 m c) (A3 m c) (A4 m c) (A5 m c) (A6 m c) (A7 m c) (A8 m c) (A9 m c) (A10 m c) (A11 m c) = rPs m c := by
  funext i
  rw [ix2_col i]
  exact (g16 (A0 m c) (A1 m c) (A2 m c) (A3 m c) (A4 m c) (A5 m c) (A6 m c) (A7 m c) (A8 m c) (A9 m c) (A10 m c) (A11 m c) _).trans (rPs_at m c _).symm

/-- The quantised hidden layers agree. -/
theorem eq17 : Cert.ReferenceIdeal.Value.G17 (A0 m c) (A1 m c) (A2 m c) (A3 m c) (A4 m c) (A5 m c) (A6 m c) (A7 m c) (A8 m c) (A9 m c) (A10 m c) (A11 m c) = rHc m c := by
  funext i
  rw [ix2_eta i]
  exact (g17 (A0 m c) (A1 m c) (A2 m c) (A3 m c) (A4 m c) (A5 m c) (A6 m c) (A7 m c) (A8 m c) (A9 m c) (A10 m c) (A11 m c) _ _).trans (rHc_at m c 8 _ _).symm

/-- Their scales agree. -/
theorem eq18 : Cert.ReferenceIdeal.Value.G18 (A0 m c) (A1 m c) (A2 m c) (A3 m c) (A4 m c) (A5 m c) (A6 m c) (A7 m c) (A8 m c) (A9 m c) (A10 m c) (A11 m c) = rHs m c := by
  funext i
  rw [ix2_col i]
  exact (g18 (A0 m c) (A1 m c) (A2 m c) (A3 m c) (A4 m c) (A5 m c) (A6 m c) (A7 m c) (A8 m c) (A9 m c) (A10 m c) (A11 m c) _).trans (rHs_at m c 8 _).symm

/-- On extended reals the idealized kernel and the reference end at the same seven results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, _, _, _, Cert.KernelIdeal.Run.run (F := Ideal) m g, ?_⟩
  refine (θ_run Cert.ReferenceIdeal.defs _ _).mono (fun r h c => ?_) (Cert.ReferenceIdeal.Value.run (F := Ideal) m' g')
  obtain ⟨e0, e1, e2, e3, e4, e5, e6, e7, e8, e9, e10, e11⟩ := hagree c
  obtain ⟨h0, h1, h2, h3, h4, h5, h6, hrest⟩ := h c
  rw [e0, e1, e2, e3, e4, e5, e6, e7, e8, e9, e10, e11] at h0 h1 h2 h3 h4 h5 h6
  exact ⟨h0.trans (eq12 m c), h1.trans (eq13 m c), h2.trans (eq14 m c), h3.trans (eq15 m c), h4.trans (eq16 m c), h5.trans (eq17 m c), h6.trans (eq18 m c), hrest⟩

end Cert.Eq

end
-- ==== Proof.lean ====
module

public import proofs.«01_k».proof.Defs
public import proofs.«01_k».proof.Proof.KF.Frame
public import proofs.«01_k».proof.Proof.KI.Final
public import proofs.«01_k».proof.Proof.Gen.ReferenceIdeal.Frame
public import proofs.«01_k».proof.Proof.Eq.Algebraic

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Run.frame m ρ,
  fun m ρ _ => Cert.ReferenceIdeal.Gen.frame m ρ,
  IdealRules.named_const.statement Cert.KernelIdeal.κ "inv_hw" .f32 0x3C924925#32 ((1 / 56 : ℝ) : EReal) rfl,
  Cert.Eq.algebraic⟩

end Cert.Proof

end
